-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 256, 256]⟩ ⟨3, ![16, 256, 256]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x256 : Shape := ⟨3, ![1, 256, 256]⟩
abbrev S256x256 : Shape := ⟨2, ![256, 256]⟩
abbrev S16x16x256 : Shape := ⟨3, ![16, 16, 256]⟩
abbrev S2x16 : Shape := ⟨2, ![2, 16]⟩
abbrev S_ : Shape := ⟨0, ![]⟩
abbrev S1x1 : Shape := ⟨2, ![1, 1]⟩
abbrev S1x8x256 : Shape := ⟨3, ![1, 8, 256]⟩
abbrev S8x256 : Shape := ⟨2, ![8, 256]⟩

abbrev nBuf : Space → Nat
  | .hbm => 2
  | .vmem => 3
  | .smem => 0
  | _ => 0

abbrev bufTy : (tb : Table) → Fin (tcTables nBuf tb) → BufTy
  | .hbm, ⟨0, _⟩ => ⟨S1x256x256, .f32⟩
  | .hbm, ⟨1, _⟩ => ⟨S256x256, .f32⟩
  | .local _ .vmem, ⟨0, _⟩ => ⟨S1x256x256, .f32⟩
  | .local _ .vmem, ⟨1, _⟩ => ⟨S256x256, .f32⟩
  | .local _ .vmem, ⟨2, _⟩ => ⟨S16x16x256, .f32⟩
  | _, _ => ⟨S1x256x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 130 → Bool
  | ⟨i, _⟩ => dmaSemScopedAt i

abbrev sig : RefSig :=
  (ofTc nBuf bufTy 1 130 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c8_i32_61 : BitVec 32) (c0_i32_64 : BitVec 32) : Fin 3 → Nat :=
  let c0_i32_65 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v64 : BitVec 32 := Scalar.addi v2 c8_i32_61
  let c16_i32_62 : BitVec 32 := 16#32
  let v65 : BitVec 32 := Scalar.remsi v64 c16_i32_62
  let c16_i32_63 : BitVec 32 := 16#32
  let v66 : BitVec 32 := Scalar.muli v65 c16_i32_63
  let v67 : BitVec 32 := Scalar.addi v66 c0_i32_64
  let c0_i32_75 : BitVec 32 := 0#32
  ![0, v67.toNat, 0]
def k0_dev16 (d0 : Dev nD) : Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_61 : BitVec 32 := 8#32
  let v64 : BitVec 32 := Scalar.addi v2 c8_i32_61
  let c16_i32_62 : BitVec 32 := 16#32
  let v65 : BitVec 32 := Scalar.remsi v64 c16_i32_62
  let c1_i32_71 : BitVec 32 := 1#32
  let v68 : BitVec 32 := Scalar.muli v65 c1_i32_71
  let v69 : BitVec 32 := Scalar.addi c0_i32_72 v68
  v69.toNat
def k0_dev17 (d0 : Dev nD) : Nat :=
  let c0_i32_87 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_76 : BitVec 32 := 7#32
  let v78 : BitVec 32 := Scalar.addi v2 c7_i32_76
  let c16_i32_77 : BitVec 32 := 16#32
  let v79 : BitVec 32 := Scalar.remsi v78 c16_i32_77
  let c1_i32_86 : BitVec 32 := 1#32
  let v82 : BitVec 32 := Scalar.muli v79 c1_i32_86
  let v83 : BitVec 32 := Scalar.addi c0_i32_87 v82
  v83.toNat
def k0_dev18 (d0 : Dev nD) : Nat :=
  let c0_i32_102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_91 : BitVec 32 := 9#32
  let v92 : BitVec 32 := Scalar.addi v2 c9_i32_91
  let c16_i32_92 : BitVec 32 := 16#32
  let v93 : BitVec 32 := Scalar.remsi v92 c16_i32_92
  let c1_i32_101 : BitVec 32 := 1#32
  let v96 : BitVec 32 := Scalar.muli v93 c1_i32_101
  let v97 : BitVec 32 := Scalar.addi c0_i32_102 v96
  v97.toNat
def k0_dev19 (d0 : Dev nD) : Nat :=
  let c0_i32_117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_106 : BitVec 32 := 6#32
  let v106 : BitVec 32 := Scalar.addi v2 c6_i32_106
  let c16_i32_107 : BitVec 32 := 16#32
  let v107 : BitVec 32 := Scalar.remsi v106 c16_i32_107
  let c1_i32_116 : BitVec 32 := 1#32
  let v110 : BitVec 32 := Scalar.muli v107 c1_i32_116
  let v111 : BitVec 32 := Scalar.addi c0_i32_117 v110
  v111.toNat
def k0_dev20 (d0 : Dev nD) : Nat :=
  let c0_i32_132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_121 : BitVec 32 := 10#32
  let v120 : BitVec 32 := Scalar.addi v2 c10_i32_121
  let c16_i32_122 : BitVec 32 := 16#32
  let v121 : BitVec 32 := Scalar.remsi v120 c16_i32_122
  let c1_i32_131 : BitVec 32 := 1#32
  let v124 : BitVec 32 := Scalar.muli v121 c1_i32_131
  let v125 : BitVec 32 := Scalar.addi c0_i32_132 v124
  v125.toNat
def k0_dev21 (d0 : Dev nD) : Nat :=
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_136 : BitVec 32 := 5#32
  let v134 : BitVec 32 := Scalar.addi v2 c5_i32_136
  let c16_i32_137 : BitVec 32 := 16#32
  let v135 : BitVec 32 := Scalar.remsi v134 c16_i32_137
  let c1_i32_146 : BitVec 32 := 1#32
  let v138 : BitVec 32 := Scalar.muli v135 c1_i32_146
  let v139 : BitVec 32 := Scalar.addi c0_i32_147 v138
  v139.toNat
def k0_dev22 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_151 : BitVec 32 := 11#32
  let v148 : BitVec 32 := Scalar.addi v2 c11_i32_151
  let c16_i32_152 : BitVec 32 := 16#32
  let v149 : BitVec 32 := Scalar.remsi v148 c16_i32_152
  let c1_i32_161 : BitVec 32 := 1#32
  let v152 : BitVec 32 := Scalar.muli v149 c1_i32_161
  let v153 : BitVec 32 := Scalar.addi c0_i32_162 v152
  v153.toNat
def k0_dev23 (d0 : Dev nD) : Nat :=
  let c0_i32_177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_166 : BitVec 32 := 4#32
  let v162 : BitVec 32 := Scalar.addi v2 c4_i32_166
  let c16_i32_167 : BitVec 32 := 16#32
  let v163 : BitVec 32 := Scalar.remsi v162 c16_i32_167
  let c1_i32_176 : BitVec 32 := 1#32
  let v166 : BitVec 32 := Scalar.muli v163 c1_i32_176
  let v167 : BitVec 32 := Scalar.addi c0_i32_177 v166
  v167.toNat
def k0_dev24 (d0 : Dev nD) : Nat :=
  let c0_i32_192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_181 : BitVec 32 := 12#32
  let v176 : BitVec 32 := Scalar.addi v2 c12_i32_181
  let c16_i32_182 : BitVec 32 := 16#32
  let v177 : BitVec 32 := Scalar.remsi v176 c16_i32_182
  let c1_i32_191 : BitVec 32 := 1#32
  let v180 : BitVec 32 := Scalar.muli v177 c1_i32_191
  let v181 : BitVec 32 := Scalar.addi c0_i32_192 v180
  v181.toNat
def k0_dev25 (d0 : Dev nD) : Nat :=
  let c0_i32_207 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_196 : BitVec 32 := 3#32
  let v190 : BitVec 32 := Scalar.addi v2 c3_i32_196
  let c16_i32_197 : BitVec 32 := 16#32
  let v191 : BitVec 32 := Scalar.remsi v190 c16_i32_197
  let c1_i32_206 : BitVec 32 := 1#32
  let v194 : BitVec 32 := Scalar.muli v191 c1_i32_206
  let v195 : BitVec 32 := Scalar.addi c0_i32_207 v194
  v195.toNat
def k0_dev26 (d0 : Dev nD) : Nat :=
  let c0_i32_222 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_211 : BitVec 32 := 13#32
  let v204 : BitVec 32 := Scalar.addi v2 c13_i32_211
  let c16_i32_212 : BitVec 32 := 16#32
  let v205 : BitVec 32 := Scalar.remsi v204 c16_i32_212
  let c1_i32_221 : BitVec 32 := 1#32
  let v208 : BitVec 32 := Scalar.muli v205 c1_i32_221
  let v209 : BitVec 32 := Scalar.addi c0_i32_222 v208
  v209.toNat
def k0_dev27 (d0 : Dev nD) : Nat :=
  let c0_i32_237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_226 : BitVec 32 := 2#32
  let v218 : BitVec 32 := Scalar.addi v2 c2_i32_226
  let c16_i32_227 : BitVec 32 := 16#32
  let v219 : BitVec 32 := Scalar.remsi v218 c16_i32_227
  let c1_i32_236 : BitVec 32 := 1#32
  let v222 : BitVec 32 := Scalar.muli v219 c1_i32_236
  let v223 : BitVec 32 := Scalar.addi c0_i32_237 v222
  v223.toNat
def k0_dev28 (d0 : Dev nD) : Nat :=
  let c0_i32_252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_241 : BitVec 32 := 14#32
  let v232 : BitVec 32 := Scalar.addi v2 c14_i32_241
  let c16_i32_242 : BitVec 32 := 16#32
  let v233 : BitVec 32 := Scalar.remsi v232 c16_i32_242
  let c1_i32_251 : BitVec 32 := 1#32
  let v236 : BitVec 32 := Scalar.muli v233 c1_i32_251
  let v237 : BitVec 32 := Scalar.addi c0_i32_252 v236
  v237.toNat
def k0_dev29 (d0 : Dev nD) : Nat :=
  let c0_i32_267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_256 : BitVec 32 := 1#32
  let v246 : BitVec 32 := Scalar.addi v2 c1_i32_256
  let c16_i32_257 : BitVec 32 := 16#32
  let v247 : BitVec 32 := Scalar.remsi v246 c16_i32_257
  let c1_i32_266 : BitVec 32 := 1#32
  let v250 : BitVec 32 := Scalar.muli v247 c1_i32_266
  let v251 : BitVec 32 := Scalar.addi c0_i32_267 v250
  v251.toNat
def k0_dev30 (d0 : Dev nD) : Nat :=
  let c0_i32_282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_271 : BitVec 32 := 15#32
  let v260 : BitVec 32 := Scalar.addi v2 c15_i32_271
  let c16_i32_272 : BitVec 32 := 16#32
  let v261 : BitVec 32 := Scalar.remsi v260 c16_i32_272
  let c1_i32_281 : BitVec 32 := 1#32
  let v264 : BitVec 32 := Scalar.muli v261 c1_i32_281
  let v265 : BitVec 32 := Scalar.addi c0_i32_282 v264
  v265.toNat
def k0_dev31 (d0 : Dev nD) : Nat :=
  let c0_i32_297 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_286 : BitVec 32 := 8#32
  let v274 : BitVec 32 := Scalar.addi v2 c8_i32_286
  let c16_i32_287 : BitVec 32 := 16#32
  let v275 : BitVec 32 := Scalar.remsi v274 c16_i32_287
  let c1_i32_296 : BitVec 32 := 1#32
  let v278 : BitVec 32 := Scalar.muli v275 c1_i32_296
  let v279 : BitVec 32 := Scalar.addi c0_i32_297 v278
  v279.toNat
def k0_dev32 (d0 : Dev nD) : Nat :=
  let c0_i32_312 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_301 : BitVec 32 := 7#32
  let v288 : BitVec 32 := Scalar.addi v2 c7_i32_301
  let c16_i32_302 : BitVec 32 := 16#32
  let v289 : BitVec 32 := Scalar.remsi v288 c16_i32_302
  let c1_i32_311 : BitVec 32 := 1#32
  let v292 : BitVec 32 := Scalar.muli v289 c1_i32_311
  let v293 : BitVec 32 := Scalar.addi c0_i32_312 v292
  v293.toNat
def k0_dev33 (d0 : Dev nD) : Nat :=
  let c0_i32_327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_316 : BitVec 32 := 9#32
  let v302 : BitVec 32 := Scalar.addi v2 c9_i32_316
  let c16_i32_317 : BitVec 32 := 16#32
  let v303 : BitVec 32 := Scalar.remsi v302 c16_i32_317
  let c1_i32_326 : BitVec 32 := 1#32
  let v306 : BitVec 32 := Scalar.muli v303 c1_i32_326
  let v307 : BitVec 32 := Scalar.addi c0_i32_327 v306
  v307.toNat
def k0_dev34 (d0 : Dev nD) : Nat :=
  let c0_i32_342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_331 : BitVec 32 := 6#32
  let v316 : BitVec 32 := Scalar.addi v2 c6_i32_331
  let c16_i32_332 : BitVec 32 := 16#32
  let v317 : BitVec 32 := Scalar.remsi v316 c16_i32_332
  let c1_i32_341 : BitVec 32 := 1#32
  let v320 : BitVec 32 := Scalar.muli v317 c1_i32_341
  let v321 : BitVec 32 := Scalar.addi c0_i32_342 v320
  v321.toNat
def k0_dev35 (d0 : Dev nD) : Nat :=
  let c0_i32_357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_346 : BitVec 32 := 10#32
  let v330 : BitVec 32 := Scalar.addi v2 c10_i32_346
  let c16_i32_347 : BitVec 32 := 16#32
  let v331 : BitVec 32 := Scalar.remsi v330 c16_i32_347
  let c1_i32_356 : BitVec 32 := 1#32
  let v334 : BitVec 32 := Scalar.muli v331 c1_i32_356
  let v335 : BitVec 32 := Scalar.addi c0_i32_357 v334
  v335.toNat
def k0_dev36 (d0 : Dev nD) : Nat :=
  let c0_i32_372 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_361 : BitVec 32 := 5#32
  let v344 : BitVec 32 := Scalar.addi v2 c5_i32_361
  let c16_i32_362 : BitVec 32 := 16#32
  let v345 : BitVec 32 := Scalar.remsi v344 c16_i32_362
  let c1_i32_371 : BitVec 32 := 1#32
  let v348 : BitVec 32 := Scalar.muli v345 c1_i32_371
  let v349 : BitVec 32 := Scalar.addi c0_i32_372 v348
  v349.toNat
def k0_dev37 (d0 : Dev nD) : Nat :=
  let c0_i32_387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_376 : BitVec 32 := 11#32
  let v358 : BitVec 32 := Scalar.addi v2 c11_i32_376
  let c16_i32_377 : BitVec 32 := 16#32
  let v359 : BitVec 32 := Scalar.remsi v358 c16_i32_377
  let c1_i32_386 : BitVec 32 := 1#32
  let v362 : BitVec 32 := Scalar.muli v359 c1_i32_386
  let v363 : BitVec 32 := Scalar.addi c0_i32_387 v362
  v363.toNat
def k0_dev38 (d0 : Dev nD) : Nat :=
  let c0_i32_402 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_391 : BitVec 32 := 4#32
  let v372 : BitVec 32 := Scalar.addi v2 c4_i32_391
  let c16_i32_392 : BitVec 32 := 16#32
  let v373 : BitVec 32 := Scalar.remsi v372 c16_i32_392
  let c1_i32_401 : BitVec 32 := 1#32
  let v376 : BitVec 32 := Scalar.muli v373 c1_i32_401
  let v377 : BitVec 32 := Scalar.addi c0_i32_402 v376
  v377.toNat
def k0_dev39 (d0 : Dev nD) : Nat :=
  let c0_i32_417 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_406 : BitVec 32 := 12#32
  let v386 : BitVec 32 := Scalar.addi v2 c12_i32_406
  let c16_i32_407 : BitVec 32 := 16#32
  let v387 : BitVec 32 := Scalar.remsi v386 c16_i32_407
  let c1_i32_416 : BitVec 32 := 1#32
  let v390 : BitVec 32 := Scalar.muli v387 c1_i32_416
  let v391 : BitVec 32 := Scalar.addi c0_i32_417 v390
  v391.toNat
def k0_dev40 (d0 : Dev nD) : Nat :=
  let c0_i32_432 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_421 : BitVec 32 := 3#32
  let v400 : BitVec 32 := Scalar.addi v2 c3_i32_421
  let c16_i32_422 : BitVec 32 := 16#32
  let v401 : BitVec 32 := Scalar.remsi v400 c16_i32_422
  let c1_i32_431 : BitVec 32 := 1#32
  let v404 : BitVec 32 := Scalar.muli v401 c1_i32_431
  let v405 : BitVec 32 := Scalar.addi c0_i32_432 v404
  v405.toNat
def k0_dev41 (d0 : Dev nD) : Nat :=
  let c0_i32_447 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_436 : BitVec 32 := 13#32
  let v414 : BitVec 32 := Scalar.addi v2 c13_i32_436
  let c16_i32_437 : BitVec 32 := 16#32
  let v415 : BitVec 32 := Scalar.remsi v414 c16_i32_437
  let c1_i32_446 : BitVec 32 := 1#32
  let v418 : BitVec 32 := Scalar.muli v415 c1_i32_446
  let v419 : BitVec 32 := Scalar.addi c0_i32_447 v418
  v419.toNat
def k0_dev42 (d0 : Dev nD) : Nat :=
  let c0_i32_462 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_451 : BitVec 32 := 2#32
  let v428 : BitVec 32 := Scalar.addi v2 c2_i32_451
  let c16_i32_452 : BitVec 32 := 16#32
  let v429 : BitVec 32 := Scalar.remsi v428 c16_i32_452
  let c1_i32_461 : BitVec 32 := 1#32
  let v432 : BitVec 32 := Scalar.muli v429 c1_i32_461
  let v433 : BitVec 32 := Scalar.addi c0_i32_462 v432
  v433.toNat
def k0_dev43 (d0 : Dev nD) : Nat :=
  let c0_i32_477 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_466 : BitVec 32 := 14#32
  let v442 : BitVec 32 := Scalar.addi v2 c14_i32_466
  let c16_i32_467 : BitVec 32 := 16#32
  let v443 : BitVec 32 := Scalar.remsi v442 c16_i32_467
  let c1_i32_476 : BitVec 32 := 1#32
  let v446 : BitVec 32 := Scalar.muli v443 c1_i32_476
  let v447 : BitVec 32 := Scalar.addi c0_i32_477 v446
  v447.toNat
def k0_dev44 (d0 : Dev nD) : Nat :=
  let c0_i32_492 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_481 : BitVec 32 := 1#32
  let v456 : BitVec 32 := Scalar.addi v2 c1_i32_481
  let c16_i32_482 : BitVec 32 := 16#32
  let v457 : BitVec 32 := Scalar.remsi v456 c16_i32_482
  let c1_i32_491 : BitVec 32 := 1#32
  let v460 : BitVec 32 := Scalar.muli v457 c1_i32_491
  let v461 : BitVec 32 := Scalar.addi c0_i32_492 v460
  v461.toNat
def k0_dev45 (d0 : Dev nD) : Nat :=
  let c0_i32_507 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_496 : BitVec 32 := 15#32
  let v470 : BitVec 32 := Scalar.addi v2 c15_i32_496
  let c16_i32_497 : BitVec 32 := 16#32
  let v471 : BitVec 32 := Scalar.remsi v470 c16_i32_497
  let c1_i32_506 : BitVec 32 := 1#32
  let v474 : BitVec 32 := Scalar.muli v471 c1_i32_506
  let v475 : BitVec 32 := Scalar.addi c0_i32_507 v474
  v475.toNat
def k0_off2 (d0 : Dev nD) (c0_i32_512 : BitVec 32) : Fin 3 → Nat :=
  let c0 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_511 : BitVec 32 := 16#32
  let v484 : BitVec 32 := Scalar.muli v2 c16_i32_511
  let v485 : BitVec 32 := Scalar.addi v484 c0_i32_512
  let v486 : Index := Scalar.indexCast v485
  let c0_513 : Index := 0#32
  ![0, v486.toNat, 0]
def k0_off3 (d0 : Dev nD) (c0_i32_665 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_664 : BitVec 32 := 16#32
  let v624 : BitVec 32 := Scalar.muli v2 c16_i32_664
  let v625 : BitVec 32 := Scalar.addi v624 c0_i32_665
  let v626 : Index := Scalar.indexCast v625
  let c0_666 : Index := 0#32
  ![v626.toNat, 0]
def k0_off4 (d0 : Dev nD) (c0_i32_672 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_671 : BitVec 32 := 16#32
  let v632 : BitVec 32 := Scalar.muli v2 c16_i32_671
  let v633 : BitVec 32 := Scalar.addi v632 c0_i32_672
  let c0_i32_679 : BitVec 32 := 0#32
  ![v633.toNat, 0]
def k0_dev46 (d0 : Dev nD) : Nat :=
  let c0_i32_678 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_667 : BitVec 32 := 8#32
  let v628 : BitVec 32 := Scalar.addi v2 c8_i32_667
  let c16_i32_668 : BitVec 32 := 16#32
  let v629 : BitVec 32 := Scalar.remsi v628 c16_i32_668
  let c1_i32_677 : BitVec 32 := 1#32
  let v634 : BitVec 32 := Scalar.muli v629 c1_i32_677
  let v635 : BitVec 32 := Scalar.addi c0_i32_678 v634
  v635.toNat
def k0_dev47 (d0 : Dev nD) : Nat :=
  let c0_i32_692 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_681 : BitVec 32 := 7#32
  let v642 : BitVec 32 := Scalar.addi v2 c7_i32_681
  let c16_i32_682 : BitVec 32 := 16#32
  let v643 : BitVec 32 := Scalar.remsi v642 c16_i32_682
  let c1_i32_691 : BitVec 32 := 1#32
  let v648 : BitVec 32 := Scalar.muli v643 c1_i32_691
  let v649 : BitVec 32 := Scalar.addi c0_i32_692 v648
  v649.toNat
def k0_dev48 (d0 : Dev nD) : Nat :=
  let c0_i32_706 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_695 : BitVec 32 := 9#32
  let v656 : BitVec 32 := Scalar.addi v2 c9_i32_695
  let c16_i32_696 : BitVec 32 := 16#32
  let v657 : BitVec 32 := Scalar.remsi v656 c16_i32_696
  let c1_i32_705 : BitVec 32 := 1#32
  let v662 : BitVec 32 := Scalar.muli v657 c1_i32_705
  let v663 : BitVec 32 := Scalar.addi c0_i32_706 v662
  v663.toNat
def k0_dev49 (d0 : Dev nD) : Nat :=
  let c0_i32_720 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_709 : BitVec 32 := 6#32
  let v670 : BitVec 32 := Scalar.addi v2 c6_i32_709
  let c16_i32_710 : BitVec 32 := 16#32
  let v671 : BitVec 32 := Scalar.remsi v670 c16_i32_710
  let c1_i32_719 : BitVec 32 := 1#32
  let v676 : BitVec 32 := Scalar.muli v671 c1_i32_719
  let v677 : BitVec 32 := Scalar.addi c0_i32_720 v676
  v677.toNat
def k0_dev50 (d0 : Dev nD) : Nat :=
  let c0_i32_734 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_723 : BitVec 32 := 10#32
  let v684 : BitVec 32 := Scalar.addi v2 c10_i32_723
  let c16_i32_724 : BitVec 32 := 16#32
  let v685 : BitVec 32 := Scalar.remsi v684 c16_i32_724
  let c1_i32_733 : BitVec 32 := 1#32
  let v690 : BitVec 32 := Scalar.muli v685 c1_i32_733
  let v691 : BitVec 32 := Scalar.addi c0_i32_734 v690
  v691.toNat
def k0_dev51 (d0 : Dev nD) : Nat :=
  let c0_i32_748 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_737 : BitVec 32 := 5#32
  let v698 : BitVec 32 := Scalar.addi v2 c5_i32_737
  let c16_i32_738 : BitVec 32 := 16#32
  let v699 : BitVec 32 := Scalar.remsi v698 c16_i32_738
  let c1_i32_747 : BitVec 32 := 1#32
  let v704 : BitVec 32 := Scalar.muli v699 c1_i32_747
  let v705 : BitVec 32 := Scalar.addi c0_i32_748 v704
  v705.toNat
def k0_dev52 (d0 : Dev nD) : Nat :=
  let c0_i32_762 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_751 : BitVec 32 := 11#32
  let v712 : BitVec 32 := Scalar.addi v2 c11_i32_751
  let c16_i32_752 : BitVec 32 := 16#32
  let v713 : BitVec 32 := Scalar.remsi v712 c16_i32_752
  let c1_i32_761 : BitVec 32 := 1#32
  let v718 : BitVec 32 := Scalar.muli v713 c1_i32_761
  let v719 : BitVec 32 := Scalar.addi c0_i32_762 v718
  v719.toNat
def k0_dev53 (d0 : Dev nD) : Nat :=
  let c0_i32_776 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_765 : BitVec 32 := 4#32
  let v726 : BitVec 32 := Scalar.addi v2 c4_i32_765
  let c16_i32_766 : BitVec 32 := 16#32
  let v727 : BitVec 32 := Scalar.remsi v726 c16_i32_766
  let c1_i32_775 : BitVec 32 := 1#32
  let v732 : BitVec 32 := Scalar.muli v727 c1_i32_775
  let v733 : BitVec 32 := Scalar.addi c0_i32_776 v732
  v733.toNat
def k0_dev54 (d0 : Dev nD) : Nat :=
  let c0_i32_790 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_779 : BitVec 32 := 12#32
  let v740 : BitVec 32 := Scalar.addi v2 c12_i32_779
  let c16_i32_780 : BitVec 32 := 16#32
  let v741 : BitVec 32 := Scalar.remsi v740 c16_i32_780
  let c1_i32_789 : BitVec 32 := 1#32
  let v746 : BitVec 32 := Scalar.muli v741 c1_i32_789
  let v747 : BitVec 32 := Scalar.addi c0_i32_790 v746
  v747.toNat
def k0_dev55 (d0 : Dev nD) : Nat :=
  let c0_i32_804 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_793 : BitVec 32 := 3#32
  let v754 : BitVec 32 := Scalar.addi v2 c3_i32_793
  let c16_i32_794 : BitVec 32 := 16#32
  let v755 : BitVec 32 := Scalar.remsi v754 c16_i32_794
  let c1_i32_803 : BitVec 32 := 1#32
  let v760 : BitVec 32 := Scalar.muli v755 c1_i32_803
  let v761 : BitVec 32 := Scalar.addi c0_i32_804 v760
  v761.toNat
def k0_dev56 (d0 : Dev nD) : Nat :=
  let c0_i32_818 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_807 : BitVec 32 := 13#32
  let v768 : BitVec 32 := Scalar.addi v2 c13_i32_807
  let c16_i32_808 : BitVec 32 := 16#32
  let v769 : BitVec 32 := Scalar.remsi v768 c16_i32_808
  let c1_i32_817 : BitVec 32 := 1#32
  let v774 : BitVec 32 := Scalar.muli v769 c1_i32_817
  let v775 : BitVec 32 := Scalar.addi c0_i32_818 v774
  v775.toNat
def k0_dev57 (d0 : Dev nD) : Nat :=
  let c0_i32_832 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_821 : BitVec 32 := 2#32
  let v782 : BitVec 32 := Scalar.addi v2 c2_i32_821
  let c16_i32_822 : BitVec 32 := 16#32
  let v783 : BitVec 32 := Scalar.remsi v782 c16_i32_822
  let c1_i32_831 : BitVec 32 := 1#32
  let v788 : BitVec 32 := Scalar.muli v783 c1_i32_831
  let v789 : BitVec 32 := Scalar.addi c0_i32_832 v788
  v789.toNat
def k0_dev58 (d0 : Dev nD) : Nat :=
  let c0_i32_846 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_835 : BitVec 32 := 14#32
  let v796 : BitVec 32 := Scalar.addi v2 c14_i32_835
  let c16_i32_836 : BitVec 32 := 16#32
  let v797 : BitVec 32 := Scalar.remsi v796 c16_i32_836
  let c1_i32_845 : BitVec 32 := 1#32
  let v802 : BitVec 32 := Scalar.muli v797 c1_i32_845
  let v803 : BitVec 32 := Scalar.addi c0_i32_846 v802
  v803.toNat
def k0_dev59 (d0 : Dev nD) : Nat :=
  let c0_i32_860 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_849 : BitVec 32 := 1#32
  let v810 : BitVec 32 := Scalar.addi v2 c1_i32_849
  let c16_i32_850 : BitVec 32 := 16#32
  let v811 : BitVec 32 := Scalar.remsi v810 c16_i32_850
  let c1_i32_859 : BitVec 32 := 1#32
  let v816 : BitVec 32 := Scalar.muli v811 c1_i32_859
  let v817 : BitVec 32 := Scalar.addi c0_i32_860 v816
  v817.toNat
def k0_dev60 (d0 : Dev nD) : Nat :=
  let c0_i32_874 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_863 : BitVec 32 := 15#32
  let v824 : BitVec 32 := Scalar.addi v2 c15_i32_863
  let c16_i32_864 : BitVec 32 := 16#32
  let v825 : BitVec 32 := Scalar.remsi v824 c16_i32_864
  let c1_i32_873 : BitVec 32 := 1#32
  let v830 : BitVec 32 := Scalar.muli v825 c1_i32_873
  let v831 : BitVec 32 := Scalar.addi c0_i32_874 v830
  v831.toNat
def k0_dev61 (d0 : Dev nD) : Nat :=
  let c0_i32_1060 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1049 : BitVec 32 := 8#32
  let v982 : BitVec 32 := Scalar.addi v2 c8_i32_1049
  let c16_i32_1050 : BitVec 32 := 16#32
  let v983 : BitVec 32 := Scalar.remsi v982 c16_i32_1050
  let c1_i32_1059 : BitVec 32 := 1#32
  let v988 : BitVec 32 := Scalar.muli v983 c1_i32_1059
  let v989 : BitVec 32 := Scalar.addi c0_i32_1060 v988
  v989.toNat
def k0_dev62 (d0 : Dev nD) : Nat :=
  let c0_i32_1074 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1063 : BitVec 32 := 7#32
  let v996 : BitVec 32 := Scalar.addi v2 c7_i32_1063
  let c16_i32_1064 : BitVec 32 := 16#32
  let v997 : BitVec 32 := Scalar.remsi v996 c16_i32_1064
  let c1_i32_1073 : BitVec 32 := 1#32
  let v1002 : BitVec 32 := Scalar.muli v997 c1_i32_1073
  let v1003 : BitVec 32 := Scalar.addi c0_i32_1074 v1002
  v1003.toNat
def k0_dev63 (d0 : Dev nD) : Nat :=
  let c0_i32_1088 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1077 : BitVec 32 := 9#32
  let v1010 : BitVec 32 := Scalar.addi v2 c9_i32_1077
  let c16_i32_1078 : BitVec 32 := 16#32
  let v1011 : BitVec 32 := Scalar.remsi v1010 c16_i32_1078
  let c1_i32_1087 : BitVec 32 := 1#32
  let v1016 : BitVec 32 := Scalar.muli v1011 c1_i32_1087
  let v1017 : BitVec 32 := Scalar.addi c0_i32_1088 v1016
  v1017.toNat
def k0_dev64 (d0 : Dev nD) : Nat :=
  let c0_i32_1102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1091 : BitVec 32 := 6#32
  let v1024 : BitVec 32 := Scalar.addi v2 c6_i32_1091
  let c16_i32_1092 : BitVec 32 := 16#32
  let v1025 : BitVec 32 := Scalar.remsi v1024 c16_i32_1092
  let c1_i32_1101 : BitVec 32 := 1#32
  let v1030 : BitVec 32 := Scalar.muli v1025 c1_i32_1101
  let v1031 : BitVec 32 := Scalar.addi c0_i32_1102 v1030
  v1031.toNat
def k0_dev65 (d0 : Dev nD) : Nat :=
  let c0_i32_1116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1105 : BitVec 32 := 10#32
  let v1038 : BitVec 32 := Scalar.addi v2 c10_i32_1105
  let c16_i32_1106 : BitVec 32 := 16#32
  let v1039 : BitVec 32 := Scalar.remsi v1038 c16_i32_1106
  let c1_i32_1115 : BitVec 32 := 1#32
  let v1044 : BitVec 32 := Scalar.muli v1039 c1_i32_1115
  let v1045 : BitVec 32 := Scalar.addi c0_i32_1116 v1044
  v1045.toNat
def k0_dev66 (d0 : Dev nD) : Nat :=
  let c0_i32_1130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1119 : BitVec 32 := 5#32
  let v1052 : BitVec 32 := Scalar.addi v2 c5_i32_1119
  let c16_i32_1120 : BitVec 32 := 16#32
  let v1053 : BitVec 32 := Scalar.remsi v1052 c16_i32_1120
  let c1_i32_1129 : BitVec 32 := 1#32
  let v1058 : BitVec 32 := Scalar.muli v1053 c1_i32_1129
  let v1059 : BitVec 32 := Scalar.addi c0_i32_1130 v1058
  v1059.toNat
def k0_dev67 (d0 : Dev nD) : Nat :=
  let c0_i32_1144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1133 : BitVec 32 := 11#32
  let v1066 : BitVec 32 := Scalar.addi v2 c11_i32_1133
  let c16_i32_1134 : BitVec 32 := 16#32
  let v1067 : BitVec 32 := Scalar.remsi v1066 c16_i32_1134
  let c1_i32_1143 : BitVec 32 := 1#32
  let v1072 : BitVec 32 := Scalar.muli v1067 c1_i32_1143
  let v1073 : BitVec 32 := Scalar.addi c0_i32_1144 v1072
  v1073.toNat
def k0_dev68 (d0 : Dev nD) : Nat :=
  let c0_i32_1158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1147 : BitVec 32 := 4#32
  let v1080 : BitVec 32 := Scalar.addi v2 c4_i32_1147
  let c16_i32_1148 : BitVec 32 := 16#32
  let v1081 : BitVec 32 := Scalar.remsi v1080 c16_i32_1148
  let c1_i32_1157 : BitVec 32 := 1#32
  let v1086 : BitVec 32 := Scalar.muli v1081 c1_i32_1157
  let v1087 : BitVec 32 := Scalar.addi c0_i32_1158 v1086
  v1087.toNat
def k0_dev69 (d0 : Dev nD) : Nat :=
  let c0_i32_1172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1161 : BitVec 32 := 12#32
  let v1094 : BitVec 32 := Scalar.addi v2 c12_i32_1161
  let c16_i32_1162 : BitVec 32 := 16#32
  let v1095 : BitVec 32 := Scalar.remsi v1094 c16_i32_1162
  let c1_i32_1171 : BitVec 32 := 1#32
  let v1100 : BitVec 32 := Scalar.muli v1095 c1_i32_1171
  let v1101 : BitVec 32 := Scalar.addi c0_i32_1172 v1100
  v1101.toNat
def k0_dev70 (d0 : Dev nD) : Nat :=
  let c0_i32_1186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1175 : BitVec 32 := 3#32
  let v1108 : BitVec 32 := Scalar.addi v2 c3_i32_1175
  let c16_i32_1176 : BitVec 32 := 16#32
  let v1109 : BitVec 32 := Scalar.remsi v1108 c16_i32_1176
  let c1_i32_1185 : BitVec 32 := 1#32
  let v1114 : BitVec 32 := Scalar.muli v1109 c1_i32_1185
  let v1115 : BitVec 32 := Scalar.addi c0_i32_1186 v1114
  v1115.toNat
def k0_dev71 (d0 : Dev nD) : Nat :=
  let c0_i32_1200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1189 : BitVec 32 := 13#32
  let v1122 : BitVec 32 := Scalar.addi v2 c13_i32_1189
  let c16_i32_1190 : BitVec 32 := 16#32
  let v1123 : BitVec 32 := Scalar.remsi v1122 c16_i32_1190
  let c1_i32_1199 : BitVec 32 := 1#32
  let v1128 : BitVec 32 := Scalar.muli v1123 c1_i32_1199
  let v1129 : BitVec 32 := Scalar.addi c0_i32_1200 v1128
  v1129.toNat
def k0_dev72 (d0 : Dev nD) : Nat :=
  let c0_i32_1214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1203 : BitVec 32 := 2#32
  let v1136 : BitVec 32 := Scalar.addi v2 c2_i32_1203
  let c16_i32_1204 : BitVec 32 := 16#32
  let v1137 : BitVec 32 := Scalar.remsi v1136 c16_i32_1204
  let c1_i32_1213 : BitVec 32 := 1#32
  let v1142 : BitVec 32 := Scalar.muli v1137 c1_i32_1213
  let v1143 : BitVec 32 := Scalar.addi c0_i32_1214 v1142
  v1143.toNat
def k0_dev73 (d0 : Dev nD) : Nat :=
  let c0_i32_1228 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1217 : BitVec 32 := 14#32
  let v1150 : BitVec 32 := Scalar.addi v2 c14_i32_1217
  let c16_i32_1218 : BitVec 32 := 16#32
  let v1151 : BitVec 32 := Scalar.remsi v1150 c16_i32_1218
  let c1_i32_1227 : BitVec 32 := 1#32
  let v1156 : BitVec 32 := Scalar.muli v1151 c1_i32_1227
  let v1157 : BitVec 32 := Scalar.addi c0_i32_1228 v1156
  v1157.toNat
def k0_dev74 (d0 : Dev nD) : Nat :=
  let c0_i32_1242 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1231 : BitVec 32 := 1#32
  let v1164 : BitVec 32 := Scalar.addi v2 c1_i32_1231
  let c16_i32_1232 : BitVec 32 := 16#32
  let v1165 : BitVec 32 := Scalar.remsi v1164 c16_i32_1232
  let c1_i32_1241 : BitVec 32 := 1#32
  let v1170 : BitVec 32 := Scalar.muli v1165 c1_i32_1241
  let v1171 : BitVec 32 := Scalar.addi c0_i32_1242 v1170
  v1171.toNat
def k0_dev75 (d0 : Dev nD) : Nat :=
  let c0_i32_1256 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1245 : BitVec 32 := 15#32
  let v1178 : BitVec 32 := Scalar.addi v2 c15_i32_1245
  let c16_i32_1246 : BitVec 32 := 16#32
  let v1179 : BitVec 32 := Scalar.remsi v1178 c16_i32_1246
  let c1_i32_1255 : BitVec 32 := 1#32
  let v1184 : BitVec 32 := Scalar.muli v1179 c1_i32_1255
  let v1185 : BitVec 32 := Scalar.addi c0_i32_1256 v1184
  v1185.toNat
abbrev stage0_0 : Fin 1 → Memref sig .tc .vmem S1x256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16x256x256 : Shape := ⟨3, ![16, 256, 256]⟩
abbrev S_ : Shape := ⟨0, ![]⟩
abbrev S256x256 : Shape := ⟨2, ![256, 256]⟩

abbrev nBuf : Space → Nat
  | .hbm => 3
  | .vmem => 0
  | .smem => 0
  | _ => 0

abbrev bufTy : (tb : Table) → Fin (tcTables nBuf tb) → BufTy
  | .hbm, ⟨0, _⟩ => ⟨S16x256x256, .f32⟩
  | .hbm, ⟨1, _⟩ => ⟨S_, .f32⟩
  | .hbm, ⟨2, _⟩ => ⟨S256x256, .f32⟩
  | _, _ => ⟨S16x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Body.lean ====
/-
  The kernel body as a program over lists: one loop per phase, each loop over the list of peers in the order
  the kernel visits them. The peers of device `c` are indexed by `r : Fin 15`: peer `r` is device `c + r + 1`
  modulo 16, and what arrives from it lands in slot `r + 1`.
-/
module

public import proofs.«01_k».proof.Proof.Gen.KernelIdeal.Skeleton
public import proofs.«01_k».proof.Proof.Gen.KernelIdeal.Points

@[expose] public section

set_option maxRecDepth 65536

noncomputable section

namespace Cert.KernelIdeal

open Idealize.ShloMosaic Idealize.ShloMosaic.TcCoe Idealize.SL.Sem
open Gen

variable {F : FTy → Type} [FloatOps F]

/-! ## The buffers and semaphores -/

abbrev xM : Memref sig .tc .vmem S1x256x256 .f32 := Memref.whole cc0_stg0_0
abbrev oM : Memref sig .tc .vmem S256x256 .f32 := Memref.whole cc0_stg1_0
abbrev rM : Memref sig .tc .vmem S16x16x256 .f32 := Memref.whole cc0_scratch0

/-- The barrier semaphore. -/
abbrev barS : Sem sig := (SemArray.scalar (sig.barrier 0 rfl) : Sems sig S_).sem

theorem sem_inb (k : Fin 2) (r : Fin 15) : ∀ a, (![k.val, r.val + 1] : Fin 2 → Nat) a + S1x1.size a ≤ S2x16.size a := by
  revert k r; decide

/-- Semaphore `(k, r + 1)` of an array. -/
def semAt (A : DmaSems sig S2x16) (k : Fin 2) (r : Fin 15) : DmaSem sig :=
  ((A.slice (Rect.unit (s := S2x16) ![k.val, r.val + 1] S1x1.size (sem_inb k r))).squeeze S_ squeezes_S1x1_S_).sem

theorem slot_inb (k : Fin 2) (r : Fin 15) : ∀ a, (![r.val + 1, 8 * k.val, 0] : Fin 3 → Nat) a + S1x8x256.size a ≤ S16x16x256.size a := by
  revert k r; decide

/-- The rectangle of chunk `k` of slot `r + 1` of the receive buffer. -/
abbrev slotR (k : Fin 2) (r : Fin 15) : Rect S16x16x256 := Rect.unit (s := S16x16x256) ![r.val + 1, 8 * k.val, 0] S1x8x256.size (slot_inb k r)

/-- Chunk `k` of slot `r + 1` of the receive buffer. -/
def slotM (k : Fin 2) (r : Fin 15) : Memref sig .tc .vmem S8x256 .f32 :=
  (rM.slice (slotR k r) (fun _ => rfl)).squeeze S8x256 squeezes_S1x8x256_S8x256

/-! ## One operation of each phase, at the offsets and devices the kernel computes -/

abbrev P (F : FTy → Type) (α : Type) := Prog (TpuEff nD τ sig (Elt F) Λ₀ .tc) α

def sig1 (d : Dev nD) : P F PUnit := semSignalWord d barS 1#32

def rsRaw (c d : Dev nD) (k : Fin 2) (r : Fin 15) : P F PUnit :=
  Prog.lift (.enqueueDma
    ((xM.slice (Rect.unit (s := S1x256x256) (k0_off1 c (BitVec.ofNat 32 (1 + r.val)) (BitVec.ofNat 32 (8 * k.val))) S1x8x256.size (k0_off1_inb c r k)) (fun _ => rfl)).squeeze S8x256 squeezes_S1x8x256_S8x256)
    (.remote (Dev.tc d) (slotM k r.rev) (.dma (semAt cc0_scratch1 k r))) (.dma (semAt cc0_scratch2 k r.rev))
    ((View.wordExact_bits rfl).reshape _ _) ((View.wordExact_bits rfl).reshape _ _) ⟨⟨rfl, Or.inl rfl⟩, trivial⟩)

def agRaw (c d : Dev nD) (k : Fin 2) (r : Fin 15) : P F PUnit :=
  Prog.lift (.enqueueDma
    (oM.slice (Rect.unit (s := S256x256) (k0_off4 c (BitVec.ofNat 32 (8 * k.val))) S8x256.size (k0_off4_inb c k)) (fun _ => rfl))
    (.remote (Dev.tc d) (oM.slice (Rect.unit (s := S256x256) (k0_off4 c (BitVec.ofNat 32 (8 * k.val))) S8x256.size (k0_off4_inb c k)) (fun _ => rfl)) (.dma (semAt cc0_scratch3 k r))) (.dma (semAt cc0_scratch4 k r.rev))
    (View.wordExact_bits rfl) (View.wordExact_bits rfl) ⟨⟨rfl, Or.inl rfl⟩, trivial⟩)

/-- The first eight rows of the output block: what the waits that close a transfer name, for their size. -/
abbrev top : Memref sig .tc .vmem S8x256 .f32 :=
  oM.slice (Rect.unit (s := S256x256) ![0, 0] S8x256.size inb_S256x256_S8x256_0_0) (fun _ => rfl)

/-- A wait for the credit of one block of eight rows. -/
def waitTop (A : DmaSems sig S2x16) (k : Fin 2) (r : Fin 15) : P F PUnit :=
  Prog.lift (.waitDma2 (semAt A k r) top top (View.wordExact_bits rfl) (View.wordExact_bits rfl))

def waitSlot (k : Fin 2) (r : Fin 15) : P F PUnit :=
  Prog.lift (.waitDma2 (semAt cc0_scratch2 k r) (slotM k r) (slotM k r) ((View.wordExact_bits rfl).reshape _ _) ((View.wordExact_bits rfl).reshape _ _))

def loadSlot (k : Fin 2) (r : Fin 15) : P F (Vec F S1x8x256 .f32) :=
  Prog.lift (.load rM (slotR k r).toLoadRect (View.loadsAt_vmem h_S1x8x256))

def loadOwn (c : Dev nD) (k : Fin 2) : P F (Vec F S1x8x256 .f32) :=
  Prog.lift (.load xM (Rect.unit (s := S1x256x256) (k0_off2 c (BitVec.ofNat 32 (8 * k.val))) S1x8x256.size (k0_off2_inb c k)).toLoadRect (View.loadsAt_vmem h_S1x8x256))

def loadOut (c : Dev nD) (k : Fin 2) : P F (Vec F S8x256 .f32) :=
  Prog.lift (.load oM (Rect.unit (s := S256x256) (k0_off3 c (BitVec.ofNat 32 (8 * k.val))) S8x256.size (k0_off3_inb c k)).toLoadRect (View.loadsAt_vmem h_S8x256))

def storeOut (c : Dev nD) (k : Fin 2) (v : FVec F S8x256 .f32) : P F PUnit :=
  Prog.lift (.store oM (Rect.unit (s := S256x256) (k0_off3 c (BitVec.ofNat 32 (8 * k.val))) S8x256.size (k0_off3_inb c k)) v Finset.univ (View.stores_vmem_bits_univ h_S8x256 rfl) (.inl rfl))

/-! ## The loops -/

/-- The operation `f` at each member of a list, then the program `K`. -/
def chain {A : Type} (f : A → P F PUnit) : List A → P F PUnit → P F PUnit
  | [], K => K
  | a :: l, K => f a >>= fun _ => chain f l K

/-- Eight rows as a matrix. -/
def flat (v : Vec F S1x8x256 .f32) : FVec F S8x256 .f32 := shapeCast S8x256 v shapeCasts_S1x8x256_S8x256

/-- Wait for each slot of a list, read it, add it to the accumulator; then `K` at the sum. -/
def gather (k : Fin 2) : List (Fin 15) → FVec F S8x256 .f32 → (FVec F S8x256 .f32 → P F PUnit) → P F PUnit
  | [], acc, K => K acc
  | r :: l, acc, K => waitSlot k r >>= fun _ => loadSlot k r >>= fun v => gather k l (addf acc (flat v)) K

/-- The order of the sends: the farthest peers first. -/
abbrev far : List (Fin 15) := [7, 6, 8, 5, 9, 4, 10, 3, 11, 2, 12, 1, 13, 0, 14]
/-- The order of the additions and of the final waits: the nearest slots first. -/
abbrev near : List (Fin 15) := [0, 14, 1, 13, 2, 12, 3, 11, 4, 10, 5, 9, 6, 8, 7]
/-- The order of the signals. -/
abbrev asc : List (Fin 15) := [0, 1, 2, 3, 4, 5, 6, 7, 8, 9, 10, 11, 12, 13, 14]

/-- The devices each phase names, as the kernel computes them. -/
abbrev devsSig (c : Dev nD) : List (Dev nD) :=
  [⟨k0_dev1 c, k0_dev1_lt c⟩, ⟨k0_dev2 c, k0_dev2_lt c⟩, ⟨k0_dev3 c, k0_dev3_lt c⟩, ⟨k0_dev4 c, k0_dev4_lt c⟩, ⟨k0_dev5 c, k0_dev5_lt c⟩,
   ⟨k0_dev6 c, k0_dev6_lt c⟩, ⟨k0_dev7 c, k0_dev7_lt c⟩, ⟨k0_dev8 c, k0_dev8_lt c⟩, ⟨k0_dev9 c, k0_dev9_lt c⟩, ⟨k0_dev10 c, k0_dev10_lt c⟩,
   ⟨k0_dev11 c, k0_dev11_lt c⟩, ⟨k0_dev12 c, k0_dev12_lt c⟩, ⟨k0_dev13 c, k0_dev13_lt c⟩, ⟨k0_dev14 c, k0_dev14_lt c⟩, ⟨k0_dev15 c, k0_dev15_lt c⟩]
abbrev devsRs0 (c : Dev nD) : List (Dev nD) :=
  [⟨k0_dev16 c, k0_dev16_lt c⟩, ⟨k0_dev17 c, k0_dev17_lt c⟩, ⟨k0_dev18 c, k0_dev18_lt c⟩, ⟨k0_dev19 c, k0_dev19_lt c⟩, ⟨k0_dev20 c, k0_dev20_lt c⟩,
   ⟨k0_dev21 c, k0_dev21_lt c⟩, ⟨k0_dev22 c, k0_dev22_lt c⟩, ⟨k0_dev23 c, k0_dev23_lt c⟩, ⟨k0_dev24 c, k0_dev24_lt c⟩, ⟨k0_dev25 c, k0_dev25_lt c⟩,
   ⟨k0_dev26 c, k0_dev26_lt c⟩, ⟨k0_dev27 c, k0_dev27_lt c⟩, ⟨k0_dev28 c, k0_dev28_lt c⟩, ⟨k0_dev29 c, k0_dev29_lt c⟩, ⟨k0_dev30 c, k0_dev30_lt c⟩]
abbrev devsRs1 (c : Dev nD) : List (Dev nD) :=
  [⟨k0_dev31 c, k0_dev31_lt c⟩, ⟨k0_dev32 c, k0_dev32_lt c⟩, ⟨k0_dev33 c, k0_dev33_lt c⟩, ⟨k0_dev34 c, k0_dev34_lt c⟩, ⟨k0_dev35 c, k0_dev35_lt c⟩,
   ⟨k0_dev36 c, k0_dev36_lt c⟩, ⟨k0_dev37 c, k0_dev37_lt c⟩, ⟨k0_dev38 c, k0_dev38_lt c⟩, ⟨k0_dev39 c, k0_dev39_lt c⟩, ⟨k0_dev40 c, k0_dev40_lt c⟩,
   ⟨k0_dev41 c, k0_dev41_lt c⟩, ⟨k0_dev42 c, k0_dev42_lt c⟩, ⟨k0_dev43 c, k0_dev43_lt c⟩, ⟨k0_dev44 c, k0_dev44_lt c⟩, ⟨k0_dev45 c, k0_dev45_lt c⟩]
abbrev devsAg0 (c : Dev nD) : List (Dev nD) :=
  [⟨k0_dev46 c, k0_dev46_lt c⟩, ⟨k0_dev47 c, k0_dev47_lt c⟩, ⟨k0_dev48 c, k0_dev48_lt c⟩, ⟨k0_dev49 c, k0_dev49_lt c⟩, ⟨k0_dev50 c, k0_dev50_lt c⟩,
   ⟨k0_dev51 c, k0_dev51_lt c⟩, ⟨k0_dev52 c, k0_dev52_lt c⟩, ⟨k0_dev53 c, k0_dev53_lt c⟩, ⟨k0_dev54 c, k0_dev54_lt c⟩, ⟨k0_dev55 c, k0_dev55_lt c⟩,
   ⟨k0_dev56 c, k0_dev56_lt c⟩, ⟨k0_dev57 c, k0_dev57_lt c⟩, ⟨k0_dev58 c, k0_dev58_lt c⟩, ⟨k0_dev59 c, k0_dev59_lt c⟩, ⟨k0_dev60 c, k0_dev60_lt c⟩]
abbrev devsAg1 (c : Dev nD) : List (Dev nD) :=
  [⟨k0_dev61 c, k0_dev61_lt c⟩, ⟨k0_dev62 c, k0_dev62_lt c⟩, ⟨k0_dev63 c, k0_dev63_lt c⟩, ⟨k0_dev64 c, k0_dev64_lt c⟩, ⟨k0_dev65 c, k0_dev65_lt c⟩,
   ⟨k0_dev66 c, k0_dev66_lt c⟩, ⟨k0_dev67 c, k0_dev67_lt c⟩, ⟨k0_dev68 c, k0_dev68_lt c⟩, ⟨k0_dev69 c, k0_dev69_lt c⟩, ⟨k0_dev70 c, k0_dev70_lt c⟩,
   ⟨k0_dev71 c, k0_dev71_lt c⟩, ⟨k0_dev72 c, k0_dev72_lt c⟩, ⟨k0_dev73 c, k0_dev73_lt c⟩, ⟨k0_dev74 c, k0_dev74_lt c⟩, ⟨k0_dev75 c, k0_dev75_lt c⟩]

/-- One chunk: add up the rows, store the sum, send it to every peer. -/
def chunkRaw (c : Dev nD) (k : Fin 2) (ds : List (Dev nD)) (K : P F PUnit) : P F PUnit :=
  loadOwn c k >>= fun v => gather k near (flat v) fun acc =>
    loadOut c k >>= fun _ => storeOut c k acc >>= fun _ => chain (fun p => agRaw c p.1 k p.2) (ds.zip far) K

/-- The two waits that close what chunk `k` sent to peer `r`. -/
def closeSends (k : Fin 2) (r : Fin 15) : P F PUnit := waitTop cc0_scratch1 k r >>= fun _ => waitTop cc0_scratch3 k r

def bodyRaw : P F PUnit :=
  Prog.lift .deviceId >>= fun c =>
    chain sig1 (devsSig c) <| semWaitWord barS 15#32 >>= fun _ =>
    chain (fun p => rsRaw c p.1 0 p.2) ((devsRs0 c).zip far) <| chain (fun p => rsRaw c p.1 1 p.2) ((devsRs1 c).zip far) <|
    chunkRaw c 0 (devsAg0 c) <| chunkRaw c 1 (devsAg1 c) <|
    chain (waitTop cc0_scratch4 0) near <| chain (closeSends 0) asc <|
    chain (waitTop cc0_scratch4 1) near <| chain (closeSends 1) asc <| pure ⟨⟩

set_option maxHeartbeats 2000000 in
theorem body_raw :
    cc0_body (F := F) xM (Memref.isWhole_whole _) oM (Memref.isWhole_whole _) rM (Memref.isWhole_whole _) cc0_scratch1 cc0_scratch2 cc0_scratch3 cc0_scratch4
      = bodyRaw := rfl

end Cert.KernelIdeal

end
-- ==== Proof.Geometry.lean ====
/-
  The ring of peers, the blocks of eight rows of each buffer, and the kernel body with every device and offset
  in closed form.
-/
module

public import proofs.«01_k».proof.Proof.Body
public import Idealize.ShloMosaic.Lib.ViewIndex
public import Idealize.ShloMosaic.Lib.Pipeline.ValueKit.Geometry

@[expose] public section

set_option maxRecDepth 65536

noncomputable section

namespace Cert.KernelIdeal

open Idealize.ShloMosaic Idealize.ShloMosaic.TcCoe Idealize.SL.Sem
open Gen

variable {F : FTy → Type} [FloatOps F]

/-! ## Peers -/

set_option backward.proofsInPublic true in
/-- Peer `r` of device `c`. -/
def peer (c : Dev nD) (r : Fin 15) : Dev nD := ⟨(c.val + r.val + 1) % 16, Nat.mod_lt _ (by decide)⟩

theorem peer_rev : ∀ (c : Dev nD) (r : Fin 15), peer (peer c r) r.rev = c := by decide +kernel
theorem rev_peer : ∀ (c : Dev nD) (r : Fin 15), peer (peer c r.rev) r = c := by decide +kernel
theorem peer_ne : ∀ (c : Dev nD) (r : Fin 15), peer c r ≠ c := by decide +kernel
theorem peer_inj : ∀ (c : Dev nD) (r r' : Fin 15), peer c r = peer c r' → r = r' := by decide +kernel
theorem peer_cover : ∀ c d : Dev nD, d = c ∨ ∃ r, peer c r = d := by decide +kernel

/-- The devices other than `c` are its fifteen peers. -/
theorem others_eq (c : Dev nD) : (Finset.univ.erase c : Finset (Dev nD)) = Finset.univ.map ⟨peer c, fun a b h => peer_inj c a b h⟩ := by
  ext d
  rw [Finset.mem_erase, Finset.mem_map]
  constructor
  · rintro ⟨h, -⟩
    rcases peer_cover c d with h' | ⟨r, hr⟩
    · exact absurd h' h
    · exact ⟨r, Finset.mem_univ r, hr⟩
  · rintro ⟨r, -, rfl⟩
    exact ⟨peer_ne c r, Finset.mem_univ _⟩

/-- Going to peer `r`, as a permutation of the devices. -/
def shift (r : Fin 15) : Dev nD ≃ Dev nD := ⟨fun c => peer c r, fun c => peer c r.rev, fun c => peer_rev c r, fun c => rev_peer c r⟩

/-! ## Blocks of eight rows -/

theorem xR_inb (q : Dev nD) (k : Fin 2) : ∀ a, (![0, 16 * q.val + 8 * k.val, 0] : Fin 3 → Nat) a + S1x8x256.size a ≤ S1x256x256.size a := by
  revert q k; decide +kernel
theorem oR_inb (q : Dev nD) (k : Fin 2) : ∀ a, (![16 * q.val + 8 * k.val, 0] : Fin 2 → Nat) a + S8x256.size a ≤ S256x256.size a := by
  revert q k; decide +kernel

/-- Chunk `k` of the sixteen rows that device `q` reduces. -/
abbrev xR (q : Dev nD) (k : Fin 2) : Rect S1x256x256 := Rect.unit (s := S1x256x256) ![0, 16 * q.val + 8 * k.val, 0] S1x8x256.size (xR_inb q k)
abbrev oR (q : Dev nD) (k : Fin 2) : Rect S256x256 := Rect.unit (s := S256x256) ![16 * q.val + 8 * k.val, 0] S8x256.size (oR_inb q k)

/-- Those rows of the operand block. -/
def xBlk (q : Dev nD) (k : Fin 2) : Memref sig .tc .vmem S8x256 .f32 :=
  (xM.slice (xR q k) (fun _ => rfl)).squeeze S8x256 squeezes_S1x8x256_S8x256
/-- Those rows of the output block. -/
def oBlk (q : Dev nD) (k : Fin 2) : Memref sig .tc .vmem S8x256 .f32 := oM.slice (oR q k) (fun _ => rfl)

/-! ## The operations at their blocks -/

/-- The send to peer `r` of chunk `k` of the rows the peer reduces. -/
def rsOp (c : Dev nD) (k : Fin 2) (r : Fin 15) : P F PUnit :=
  Prog.lift (.enqueueDma (xBlk (peer c r) k)
    (.remote (Dev.tc (peer c r)) (slotM k r.rev) (.dma (semAt cc0_scratch1 k r))) (.dma (semAt cc0_scratch2 k r.rev))
    ((View.wordExact_bits rfl).reshape _ _) ((View.wordExact_bits rfl).reshape _ _) ⟨⟨rfl, Or.inl rfl⟩, trivial⟩)

/-- The send to peer `r` of chunk `k` of the device's own sum. -/
def agOp (c : Dev nD) (k : Fin 2) (r : Fin 15) : P F PUnit :=
  Prog.lift (.enqueueDma (oBlk c k)
    (.remote (Dev.tc (peer c r)) (oBlk c k) (.dma (semAt cc0_scratch3 k r))) (.dma (semAt cc0_scratch4 k r.rev))
    (View.wordExact_bits rfl) (View.wordExact_bits rfl) ⟨⟨rfl, Or.inl rfl⟩, trivial⟩)

def ownOp (c : Dev nD) (k : Fin 2) : P F (Vec F S1x8x256 .f32) :=
  Prog.lift (.load xM (xR c k).toLoadRect (View.loadsAt_vmem h_S1x8x256))
def peekOp (c : Dev nD) (k : Fin 2) : P F (Vec F S8x256 .f32) :=
  Prog.lift (.load oM (oR c k).toLoadRect (View.loadsAt_vmem h_S8x256))
def putOp (c : Dev nD) (k : Fin 2) (v : FVec F S8x256 .f32) : P F PUnit :=
  Prog.lift (.store oM (oR c k) v Finset.univ (View.stores_vmem_bits_univ h_S8x256 rfl) (.inl rfl))

theorem rsRaw_eq (c : Dev nD) (k : Fin 2) (r : Fin 15) : rsRaw (F := F) c (peer c r) k r = rsOp c k r := by
  have gen : ∀ (off : Fin 3 → Nat) (_ : off = ![0, 16 * (peer c r).val + 8 * k.val, 0]) (inb : ∀ a, off a + S1x8x256.size a ≤ S1x256x256.size a),
      (Prog.lift (.enqueueDma ((xM.slice (Rect.unit (s := S1x256x256) off S1x8x256.size inb) (fun _ => rfl)).squeeze S8x256 squeezes_S1x8x256_S8x256)
        (.remote (Dev.tc (peer c r)) (slotM k r.rev) (.dma (semAt cc0_scratch1 k r))) (.dma (semAt cc0_scratch2 k r.rev))
        ((View.wordExact_bits rfl).reshape _ _) ((View.wordExact_bits rfl).reshape _ _) ⟨⟨rfl, Or.inl rfl⟩, trivial⟩) : P F PUnit) = rsOp c k r := by
    intro off h inb; subst h; rfl
  exact gen _ (k0_off1_eq c r k) (k0_off1_inb c r k)

theorem agRaw_eq (c : Dev nD) (k : Fin 2) (r : Fin 15) : agRaw (F := F) c (peer c r) k r = agOp c k r := by
  have gen : ∀ (off : Fin 2 → Nat) (_ : off = ![16 * c.val + 8 * k.val, 0]) (inb : ∀ a, off a + S8x256.size a ≤ S256x256.size a),
      (Prog.lift (.enqueueDma (oM.slice (Rect.unit (s := S256x256) off S8x256.size inb) (fun _ => rfl))
        (.remote (Dev.tc (peer c r)) (oM.slice (Rect.unit (s := S256x256) off S8x256.size inb) (fun _ => rfl)) (.dma (semAt cc0_scratch3 k r)))
        (.dma (semAt cc0_scratch4 k r.rev)) (View.wordExact_bits rfl) (View.wordExact_bits rfl) ⟨⟨rfl, Or.inl rfl⟩, trivial⟩) : P F PUnit) = agOp c k r := by
    intro off h inb; subst h; rfl
  exact gen _ (k0_off4_eq c k) (k0_off4_inb c k)

theorem loadOwn_eq (c : Dev nD) (k : Fin 2) : loadOwn (F := F) c k = ownOp c k := by
  have gen : ∀ (off : Fin 3 → Nat) (_ : off = ![0, 16 * c.val + 8 * k.val, 0]) (inb : ∀ a, off a + S1x8x256.size a ≤ S1x256x256.size a),
      (Prog.lift (.load xM (Rect.unit (s := S1x256x256) off S1x8x256.size inb).toLoadRect (View.loadsAt_vmem h_S1x8x256)) : P F (Vec F S1x8x256 .f32)) = ownOp c k := by
    intro off h inb; subst h; rfl
  exact gen _ (k0_off2_eq c k) (k0_off2_inb c k)

theorem loadOut_eq (c : Dev nD) (k : Fin 2) : loadOut (F := F) c k = peekOp c k := by
  have gen : ∀ (off : Fin 2 → Nat) (_ : off = ![16 * c.val + 8 * k.val, 0]) (inb : ∀ a, off a + S8x256.size a ≤ S256x256.size a),
      (Prog.lift (.load oM (Rect.unit (s := S256x256) off S8x256.size inb).toLoadRect (View.loadsAt_vmem h_S8x256)) : P F (Vec F S8x256 .f32)) = peekOp c k := by
    intro off h inb; subst h; rfl
  exact gen _ (k0_off3_eq c k) (k0_off3_inb c k)

theorem storeOut_eq (c : Dev nD) (k : Fin 2) (v : FVec F S8x256 .f32) : storeOut (F := F) c k v = putOp c k v := by
  have gen : ∀ (off : Fin 2 → Nat) (_ : off = ![16 * c.val + 8 * k.val, 0]) (inb : ∀ a, off a + S8x256.size a ≤ S256x256.size a),
      (Prog.lift (.store oM (Rect.unit (s := S256x256) off S8x256.size inb) v Finset.univ (View.stores_vmem_bits_univ h_S8x256 rfl) (.inl rfl)) : P F PUnit) = putOp c k v := by
    intro off h inb; subst h; rfl
  exact gen _ (k0_off3_eq c k) (k0_off3_inb c k)

/-! ## The devices each phase names -/

theorem devsSig_eq : ∀ c : Dev nD, devsSig c = asc.map (peer c) := by decide +kernel
theorem devsRs0_eq : ∀ c : Dev nD, devsRs0 c = far.map (peer c) := by decide +kernel
theorem devsRs1_eq : ∀ c : Dev nD, devsRs1 c = far.map (peer c) := by decide +kernel
theorem devsAg0_eq : ∀ c : Dev nD, devsAg0 c = far.map (peer c) := by decide +kernel
theorem devsAg1_eq : ∀ c : Dev nD, devsAg1 c = far.map (peer c) := by decide +kernel

theorem chain_map {A B : Type} (f : B → P F PUnit) (g : A → B) (l : List A) (K : P F PUnit) :
    chain f (l.map g) K = chain (fun a => f (g a)) l K := by
  induction l with
  | nil => rfl
  | cons a l ih => simp only [List.map_cons, chain, ih]

theorem chain_zip {A B : Type} (f : B → A → P F PUnit) (g : A → B) (l : List A) (K : P F PUnit) :
    chain (fun p : B × A => f p.1 p.2) ((l.map g).zip l) K = chain (fun a => f (g a) a) l K := by
  induction l with
  | nil => rfl
  | cons a l ih => simp only [List.map_cons, List.zip_cons_cons, chain, ih]

/-! ## The body -/

/-- One chunk: add up the rows, store the sum, send it to every peer. -/
def chunk (c : Dev nD) (k : Fin 2) (K : P F PUnit) : P F PUnit :=
  ownOp c k >>= fun v => gather k near (flat v) fun acc =>
    peekOp c k >>= fun _ => putOp c k acc >>= fun _ => chain (agOp c k) far K

/-- The kernel body on device `c`. -/
def bodyAt (c : Dev nD) : P F PUnit :=
  chain (fun r => sig1 (peer c r)) asc <| semWaitWord barS 15#32 >>= fun _ =>
  chain (rsOp c 0) far <| chain (rsOp c 1) far <| chunk c 0 <| chunk c 1 <|
  chain (waitTop cc0_scratch4 0) near <| chain (closeSends 0) asc <|
  chain (waitTop cc0_scratch4 1) near <| chain (closeSends 1) asc <| pure ⟨⟩

theorem chunkRaw_eq (c : Dev nD) (k : Fin 2) (K : P F PUnit) : chunkRaw c k (far.map (peer c)) K = chunk c k K := by
  unfold chunkRaw chunk
  simp only [loadOwn_eq, loadOut_eq, storeOut_eq, chain_zip (fun d r => agRaw c d k r), agRaw_eq]

theorem rsChain_eq (c : Dev nD) (k : Fin 2) (K : P F PUnit) :
    chain (fun p => rsRaw c p.1 k p.2) ((far.map (peer c)).zip far) K = chain (rsOp c k) far K := by
  simp only [chain_zip (fun d r => rsRaw c d k r), rsRaw_eq]

theorem bodyRaw_eq : bodyRaw (F := F) = (Prog.lift .deviceId >>= fun c => bodyAt c) := by
  unfold bodyRaw bodyAt
  simp only [devsSig_eq, devsRs0_eq, devsRs1_eq, devsAg0_eq, devsAg1_eq, chain_map, rsChain_eq, chunkRaw_eq]

theorem body_eq :
    cc0_body (F := F) xM (Memref.isWhole_whole _) oM (Memref.isWhole_whole _) rM (Memref.isWhole_whole _) cc0_scratch1 cc0_scratch2 cc0_scratch3 cc0_scratch4
      = (Prog.lift .deviceId >>= fun c => bodyAt c) := body_raw.trans bodyRaw_eq

end Cert.KernelIdeal

end
-- ==== Proof.Protocol.lean ====
/-
  The protocol: what each block holds, the cells, the one round each cell runs, what each device owes, the levels.
-/
module

public import proofs.«01_k».proof.Proof.Geometry
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Transfers
public import Idealize.ShloMosaic.Lib.Ring
public import Idealize.ShloMosaic.Lib.Tactic

@[expose] public section

set_option maxRecDepth 65536

noncomputable section

namespace Cert.KernelIdeal

open Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## Contents -/

/-- The operand block staged on device `c`. -/
def xstg (c : Dev nD) : (cc0_stg0_0 : Ref sig .tc).ty.Contents (Elt F) :=
  (win0_0.blk (0 : Fin 1)).view.read (Elt F) ((s₀ m ρ).mem ((c : Thread nD τ).loc main_arg0))

/-- Chunk `k` of the rows device `q` reduces, as device `p` holds them. -/
def rdX (p q : Dev nD) (k : Fin 2) : FVec F S8x256 .f32 := (xBlk q k).view.read (Elt F) (xstg m ρ p)

/-- The sum device `q` makes of chunk `k`: its own rows and then its peers', in the order of the slots. -/
def outV (q : Dev nD) (k : Fin 2) : FVec F S8x256 .f32 :=
  near.foldl (fun acc r => addf acc (rdX m ρ (peer q r) q k)) (rdX m ρ q q k)

theorem row_dev {n : ℕ} (h : n < 256) : n / 16 < nD := by show n / 16 < 16; omega
theorem row_chunk (n : ℕ) : n % 16 / 8 < 2 := by omega
theorem row_row (n : ℕ) : n % 8 < 8 := by omega

/-- The index of a block of eight rows at a row and a column. -/
def inRow (a : Fin 8) (b : Fin 256) : S8x256.Idx := Shape.pair (d := ![8, 256]) a b
def rowOf (i : S256x256.Idx) : Fin 256 := i 0
def colOf (i : S256x256.Idx) : Fin 256 := i 1

/-- The result, the same on every device: row `i` comes from the device and chunk that hold it. -/
def outFn (i : S256x256.Idx) : F .f32 :=
  outV m ρ ⟨(rowOf i).val / 16, row_dev (rowOf i).isLt⟩ ⟨(rowOf i).val % 16 / 8, row_chunk _⟩ (inRow ⟨(rowOf i).val % 8, row_row _⟩ (colOf i))

def outC : (cc0_stg1_0 : Ref sig .tc).ty.Contents (Elt F) := outFn m ρ

theorem oR_emb (q : Dev nD) (k : Fin 2) (j : (oR q k).shape.Idx) (a : Fin 2) :
    ((oR q k).emb j a : Nat) = (![16 * q.val + 8 * k.val, 0] : Fin 2 → Nat) a + (j a).val :=
  ValueKit.rect_emb_unit_val (s := S256x256) _ _ (oR_inb q k) j a

theorem inRow_eta (j : S8x256.Idx) (a : Fin 8) (b : Fin 256) (ha : a.val = (j 0).val) (hb : b.val = (j 1).val) : inRow a b = j := by
  have e : inRow a b = inRow (j 0) (j 1) := by rw [Fin.ext ha, Fin.ext hb]
  exact e.trans (Shape.pair_eta j)

theorem outFn_at (q : Dev nD) (k : Fin 2) (j : S8x256.Idx) (i : S256x256.Idx) (h0 : (rowOf i).val = 16 * q.val + 8 * k.val + (j 0).val)
    (h1 : (colOf i).val = (j 1).val) : outFn m ρ i = outV m ρ q k j := by
  have hj : (j 0).val < 8 := (j 0).isLt
  have hk := k.isLt
  unfold outFn
  have e1 : (⟨(rowOf i).val / 16, row_dev (rowOf i).isLt⟩ : Dev nD) = q := Fin.ext (show _ / 16 = q.val by rw [h0]; omega)
  have e2 : (⟨(rowOf i).val % 16 / 8, row_chunk _⟩ : Fin 2) = k := Fin.ext (show _ % 16 / 8 = k.val by rw [h0]; omega)
  have e3 : inRow ⟨(rowOf i).val % 8, row_row _⟩ (colOf i) = j := inRow_eta j _ _ (show _ % 8 = (j 0).val by rw [h0]; omega) h1
  rw [e1, e2, e3]

theorem read_oBlk (q : Dev nD) (k : Fin 2) (f : (cc0_stg1_0 : Ref sig .tc).ty.Contents (Elt F)) :
    (oBlk q k).view.read (Elt F) f = fun j => oM.view.read (Elt F) f ((oR q k).emb j) := rfl

theorem oR_row (q : Dev nD) (k : Fin 2) (j : S8x256.Idx) : (rowOf ((oR q k).emb j)).val = 16 * q.val + 8 * k.val + (j 0).val := oR_emb q k j 0
theorem oR_col (q : Dev nD) (k : Fin 2) (j : S8x256.Idx) : (colOf ((oR q k).emb j)).val = (j 1).val := (oR_emb q k j 1).trans (Nat.zero_add _)

theorem read_oM (f : (cc0_stg1_0 : Ref sig .tc).ty.Contents (Elt F)) : oM.view.read (Elt F) f = f := View.read_whole _ _
theorem outC_apply (i : S256x256.Idx) : outC m ρ i = outFn m ρ i := rfl

/-- The result read at a block is the sum made for it. -/
theorem read_outC (q : Dev nD) (k : Fin 2) : (oBlk q k).view.read (Elt F) (outC m ρ) = outV m ρ q k := by
  rw [read_oBlk, read_oM]
  funext j
  rw [outC_apply]
  exact outFn_at m ρ q k j ((oR q k).emb j) (oR_row q k j) (oR_col q k j)

/-! ## The blocks, held -/

def xPts (c q : Dev nD) (k : Fin 2) : sProp 𝕄 :=
  (xBlk q k).view.loc (c : Thread nD τ) ↦[(xBlk q k).view.set]{fullShare} xstg m ρ c
def slotPts (c : Dev nD) (k : Fin 2) (r : Fin 15) (f : Buf (Elt F) ((slotM k r).view.loc (c : Thread nD τ))) : sProp 𝕄 :=
  (slotM k r).view.loc (c : Thread nD τ) ↦[(slotM k r).view.set]{fullShare} f
def slotAny (c : Dev nD) (k : Fin 2) (r : Fin 15) : sProp 𝕄 := iprop(∃ f, slotPts (F := F) c k r f)
/-- The slot, holding what peer `r` sent. -/
def slotGot (c : Dev nD) (k : Fin 2) (r : Fin 15) : sProp 𝕄 :=
  iprop(∃ f, ⌜(slotM k r).view.read (Elt F) f = rdX m ρ (peer c r) c k⌝ ∗ slotPts (F := F) c k r f)
def oPts (c q : Dev nD) (k : Fin 2) (π : PosShare TreeShare) (f : Buf (Elt F) ((oBlk q k).view.loc (c : Thread nD τ))) : sProp 𝕄 :=
  (oBlk q k).view.loc (c : Thread nD τ) ↦[(oBlk q k).view.set]{π} f
def oAny (c q : Dev nD) (k : Fin 2) : sProp 𝕄 := iprop(∃ f, oPts (F := F) c q k fullShare f)

instance xPts_storable (c q : Dev nD) (k : Fin 2) : BI.Storable (upEmb : UEmb _ 𝕄) (xPts (F := F) m ρ c q k) := by
  have h : ∀ f : Buf (Elt F) ((xBlk q k).view.loc (c : Thread nD τ)),
      BI.Storable (upEmb : UEmb _ 𝕄) ((xBlk q k).view.loc (c : Thread nD τ) ↦[(xBlk q k).view.set]{fullShare} f) := fun f => inferInstance
  exact h _
instance slotPts_storable (c : Dev nD) (k : Fin 2) (r : Fin 15) (f) : BI.Storable (upEmb : UEmb _ 𝕄) (slotPts (F := F) c k r f) := by unfold slotPts; infer_instance
instance slotAny_storable (c : Dev nD) (k : Fin 2) (r : Fin 15) : BI.Storable (upEmb : UEmb _ 𝕄) (slotAny (F := F) c k r) := by unfold slotAny; infer_instance
instance slotGot_storable (c : Dev nD) (k : Fin 2) (r : Fin 15) : BI.Storable (upEmb : UEmb _ 𝕄) (slotGot (F := F) m ρ c k r) := by unfold slotGot; infer_instance
instance oPts_storable (c q : Dev nD) (k : Fin 2) (π f) : BI.Storable (upEmb : UEmb _ 𝕄) (oPts (F := F) c q k π f) := by unfold oPts; infer_instance
instance oAny_storable (c q : Dev nD) (k : Fin 2) : BI.Storable (upEmb : UEmb _ 𝕄) (oAny (F := F) c q k) := by unfold oAny; infer_instance

/-! ## Cells -/

/-- A device's cells: its barrier cell, and of each of the four semaphore arrays (sent and received of the first
    phase, sent and received of the second) one cell per chunk and peer. -/
abbrev CI : Type := Option (Fin 4 × Fin 2 × Fin 15)
abbrev arr : Fin 4 → DmaSems sig S2x16 := ![cc0_scratch1, cc0_scratch2, cc0_scratch3, cc0_scratch4]
abbrev csem : CI → SemLoc sig
  | none => .reg barS
  | some (a, k, r) => .dma (semAt (arr a) k r)
theorem csem_inj : ∀ i j : CI, csem i = csem j → i = j := by decide +kernel
abbrev kcell (x : Dev nD × CI) : GSem nD τ sig := ((x.1 : Thread nD τ), csem x.2)

theorem kcell_inj : Function.Injective kcell := fun ⟨c, i⟩ ⟨d, j⟩ h => by
  have h1 : (c : Thread nD τ) = d := congrArg Prod.fst h
  have h2 : csem i = csem j := congrArg Prod.snd h
  have h3 : c = d := congrArg Prod.fst h1
  rw [h3, csem_inj i j h2]

/-- Which cell of which device a semaphore is. -/
def dec (g : GSem nD τ sig) : Option (Dev nD × CI) := Function.partialInv kcell g
theorem dec_kcell (x : Dev nD × CI) : dec (kcell x) = some x := Function.partialInv_left kcell_inj x

/-- The credit of one block. -/
abbrev N : ℕ := top.view.dmaCredit
theorem N_pos : 0 < N := View.dmaCredit_pos _ (by decide)

/-- What one payment adds to a cell. -/
def wt : CI → ℕ
  | none => 1
  | some _ => N
theorem wt_pos (i : CI) : 0 < wt i := by cases i with | none => exact Nat.one_pos | some _ => exact N_pos

/-! ## The schedule -/

/-- What a signal (from the device whose peer `r` is `c`) hands to `c`: the slots of `c`'s rows there, and the rows
    of the output there that `c` fills. -/
def barPay (c : Dev nD) (r : Fin 15) : sProp 𝕄 :=
  bigSep Finset.univ fun k : Fin 2 => iprop(slotAny (F := F) (peer c r.rev) k r ∗ oAny (F := F) (peer c r.rev) c k)

/-- What a completed transfer hands to the device that waits. -/
def xferPay (c : Dev nD) (a : Fin 4) (k : Fin 2) (r : Fin 15) : sProp 𝕄 :=
  (![xPts m ρ c (peer c r) k, slotGot m ρ c k r, oPts c c k (Idealize.ShloMosaic.Transfers.shareTok fullShare 15 r) (outC m ρ), oPts c (peer c r) k fullShare (outC m ρ)] : Fin 4 → sProp 𝕄) a

def pay (x : Dev nD × CI) (d : Fin 15) : sProp 𝕄 :=
  match x with
  | (c, none) => barPay c d
  | (c, some (a, k, r)) => xferPay m ρ c a k r

instance xferPay_storable (c : Dev nD) (a : Fin 4) (k : Fin 2) (r : Fin 15) : BI.Storable (upEmb : UEmb _ 𝕄) (xferPay (F := F) m ρ c a k r) := by
  match a with
  | 0 => exact xPts_storable m ρ c (peer c r) k
  | 1 => exact slotGot_storable m ρ c k r
  | 2 => exact oPts_storable c c k _ _
  | 3 => exact oPts_storable c (peer c r) k _ _
instance pay_storable (x : Dev nD × CI) (d : Fin 15) : BI.Storable (upEmb : UEmb _ 𝕄) (pay (F := F) m ρ x d) := by
  match x with
  | (c, none) => show BI.Storable upEmb (barPay c d); unfold barPay; infer_instance
  | (c, some (a, k, r)) => exact xferPay_storable m ρ c a k r

/-- The duties of a cell: fifteen signals at a barrier cell, one transfer at any other. -/
def dutiesOf : CI → Finset (Fin 15)
  | none => Finset.univ
  | some _ => {0}

/-- One round per cell. -/
def Rd : Rounds.Schedule (GSem nD τ sig) (Fin 15) 𝕄 where
  duties g r := if r = 0 then ((dec g).elim ∅ fun x => dutiesOf x.2) else ∅
  unitless _ := False
  amount g _ _ := (dec g).elim 1 fun x => wt x.2
  payload g _ d := (dec g).elim iprop(emp) fun x => pay m ρ x d
  amount_pos g _ _ _ := by
    cases h : dec g with
    | none => exact Nat.one_pos
    | some x => exact wt_pos x.2

instance Rd_payload_storable (g : GSem nD τ sig) (r : ℕ) (d : Fin 15) : BI.Storable (upEmb : UEmb _ 𝕄) ((Rd (F := F) m ρ).payload g r d) := by
  show BI.Storable upEmb ((dec g).elim iprop(emp) fun x => pay m ρ x d)
  cases dec g with
  | none => show BI.Storable upEmb iprop(emp); infer_instance
  | some x => exact pay_storable m ρ x d

section Sched
variable (x : Dev nD × CI) (c : Dev nD) (a : Fin 4) (k : Fin 2) (r d : Fin 15)

theorem duties_eq : (Rd (F := F) m ρ).duties (kcell x) 0 = dutiesOf x.2 := by
  show (if (0 : ℕ) = 0 then ((dec (kcell x)).elim ∅ fun x => dutiesOf x.2) else ∅) = _
  rw [if_pos rfl, dec_kcell]; rfl
theorem duties_later (g : GSem nD τ sig) : ∀ r, 1 ≤ r → (Rd (F := F) m ρ).duties g r = ∅ := fun r hr => by
  show (if r = 0 then _ else ∅) = _
  rw [if_neg (by omega)]
theorem amount_eq : (Rd (F := F) m ρ).amount (kcell x) 0 d = wt x.2 := by
  show ((dec (kcell x)).elim 1 fun x => wt x.2) = _
  rw [dec_kcell]; rfl
theorem payload_eq : (Rd (F := F) m ρ).payload (kcell x) 0 d = pay m ρ x d := by
  show ((dec (kcell x)).elim iprop(emp) fun x => pay m ρ x d) = _
  rw [dec_kcell]; rfl

theorem expect_bar : (Rd (F := F) m ρ).expect (kcell (c, none)) 0 = 15 := by
  unfold Schedule.expect Schedule.amountOf
  rw [duties_eq, Finset.sum_congr rfl fun d _ => amount_eq m ρ (c, none) d]
  rfl
theorem expect_xfer : (Rd (F := F) m ρ).expect (kcell (c, some (a, k, r))) 0 = N := by
  unfold Schedule.expect Schedule.amountOf
  rw [duties_eq]
  show ∑ d ∈ ({0} : Finset (Fin 15)), _ = _
  rw [Finset.sum_singleton, amount_eq]; rfl

theorem rest_bar : bigSep ((Rd (F := F) m ρ).duties (kcell (c, none)) 0 \ ∅) (fun d => (Rd (F := F) m ρ).payload (kcell (c, none)) 0 d)
    = bigSep Finset.univ fun d => barPay (F := F) c d := by
  rw [Finset.sdiff_empty, duties_eq]
  exact congrArg _ (funext fun d => payload_eq m ρ (c, none) d)
theorem rest_xfer : bigSep ((Rd (F := F) m ρ).duties (kcell (c, some (a, k, r))) 0 \ ∅) (fun d => (Rd (F := F) m ρ).payload (kcell (c, some (a, k, r))) 0 d)
    = xferPay m ρ c a k r := by
  rw [Finset.sdiff_empty, duties_eq]
  show bigSep ({0} : Finset (Fin 15)) _ = _
  rw [bigSep_singleton, payload_eq]; rfl

end Sched

/-! ## Debts and levels -/

/-- One payment owed to each cell of a list. -/
def owe : List (Dev nD × CI) → CellTallies nD τ sig Unit
  | [] => 0
  | x :: l => owe l + tallyAt (kcell x) () (wt x.2)

/-- The level of a cell: the barrier below the first phase's arrivals, those below the second's. -/
def lvI : CI → ℕ
  | none => 1
  | some (a, _, _) => (![0, 2, 0, 3] : Fin 4 → ℕ) a

def L (g : GSem nD τ sig) : Finset Unit := if g.1.2 = .tc then {()} else ∅
def lv (g : GSem nD τ sig) (_ : Unit) : ℕ := (dec g).elim 0 fun x => lvI x.2

theorem L_of_ne (g : GSem nD τ sig) (h : g.1.2 ≠ .tc) : L g = ∅ := if_neg h
theorem L_tc (c : Dev nD) (sm : SemLoc sig) : L ((c : Thread nD τ), sm) = {()} := if_pos rfl
theorem lv_kcell (x : Dev nD × CI) (u : Unit) : lv (kcell x) u = lvI x.2 := by unfold lv; rw [dec_kcell]; rfl

theorem owe_pos {l : List (Dev nD × CI)} {g : GSem nD τ sig} {u : Unit} (h : 0 < owe l g u) : ∃ x ∈ l, g = kcell x := by
  induction l with
  | nil => exact absurd h (Nat.lt_irrefl 0)
  | cons x l ih =>
    have h' : 0 < owe l g u + tallyAt (kcell x) () (wt x.2) g u := h
    rw [tallyAt_apply] at h'
    by_cases hx : g = kcell x ∧ u = ()
    · exact ⟨x, List.mem_cons_self, hx.1⟩
    · rw [if_neg hx, Nat.add_zero] at h'
      obtain ⟨y, hy, e⟩ := ih h'
      exact ⟨y, List.mem_cons_of_mem x hy, e⟩

/-- A device may wait at a cell below everything it owes. -/
theorem mayWait_of (c : Dev nD) (sm : SemLoc sig) (n : ℕ) (l : List (Dev nD × CI)) (hn : lv ((c : Thread nD τ), sm) () ≤ n)
    (hl : ∀ x ∈ l, n < lvI x.2) : (levAts L lv : sProp 𝕄) ⊢ MayWait (c : Thread nD τ) sm () (owe l) :=
  MayOwe.of_cut (L := L) (lev := lv) n (fun p hp => by rw [Finset.mem_singleton.mp hp, L_tc]; exact Finset.mem_singleton_self _)
    (fun g u hg => by obtain ⟨x, -, rfl⟩ := owe_pos hg; exact Finset.mem_singleton_self _)
    (fun p hp => by rw [Finset.mem_singleton.mp hp]; exact hn)
    (fun g u hg => by obtain ⟨x, hx, rfl⟩ := owe_pos hg; rw [lv_kcell]; exact hl x hx)

theorem mayWait_nil (c : Dev nD) (sm : SemLoc sig) : (levAts L lv : sProp 𝕄) ⊢ MayWait (c : Thread nD τ) sm () (owe []) := by
  show _ ⊢ MayWait (c : Thread nD τ) sm () 0
  rw [MayWait_zero]; iintro -; iempintro

/-- What device `c` pays, in the order it pays. -/
abbrev sigL (c : Dev nD) (l : List (Fin 15)) : List (Dev nD × CI) := l.map fun r => (peer c r, none)
abbrev xferL (c : Dev nD) (a : Fin 4) (k : Fin 2) (l : List (Fin 15)) : List (Dev nD × CI) := l.map fun r => (peer c r, some (a, k, r.rev))
abbrev debts (c : Dev nD) : List (Dev nD × CI) :=
  sigL c asc ++ (xferL c 1 0 far ++ (xferL c 1 1 far ++ (xferL c 3 0 far ++ (xferL c 3 1 far ++ []))))

/-! ## The shared records -/

/-- Of every cell of every device: the invariant and that its round has begun. -/
def records (K : Dev nD × CI → ℕ) : sProp 𝕄 :=
  bigSep Finset.univ fun x => iprop(cellInv ER (Rd m ρ) (K x) (kcell x) ∗ reached ER (kcell x) 0)

instance records_persistent (K : Dev nD × CI → ℕ) : BI.Persistent (records (F := F) m ρ K) := by unfold records; infer_instance

theorem records_at (K : Dev nD × CI → ℕ) (x : Dev nD × CI) :
    records (F := F) m ρ K ⊢ iprop(cellInv ER (Rd m ρ) (K x) (kcell x) ∗ reached ER (kcell x) 0) :=
  bigSep_elim (Finset.mem_univ x)

end Cert.KernelIdeal

end
-- ==== Proof.Steps.lean ====
/-
  One rule per operation of the kernel, and the same rules along a list of peers.
-/
module

public import proofs.«01_k».proof.Proof.Protocol

@[expose] public section

set_option maxRecDepth 65536

noncomputable section

namespace Cert.KernelIdeal

open Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The program `p`, run by device `c`, ends with `Q`. -/
abbrev Runs {α : Type} (c : Dev nD) (p : P F α) (Q : α → sProp 𝕄) : sProp 𝕄 :=
  wp frame (wpE (defs₀ (F := F)) 𝒱₀ (c : Thread nD τ) none) Set.univ p Q

/-- Device `c` owes one payment to each cell of `l`. -/
def owing (c : Dev nD) (l : List (Dev nD × CI)) : sProp 𝕄 := iprop(∃ W, owes (c : Thread nD τ) (owe l) W)

/-- What every step may use: the records of the cells and their levels. -/
def ctx (K : Dev nD × CI → ℕ) : sProp 𝕄 := iprop(records m ρ K ∗ levAts L lv)
instance ctx_persistent (K : Dev nD × CI → ℕ) : BI.Persistent (ctx (F := F) m ρ K) := by unfold ctx; infer_instance

variable (K : Dev nD × CI → ℕ)

theorem ctx_at (x : Dev nD × CI) : ctx (F := F) m ρ K ⊢ iprop(cellInv ER (Rd m ρ) (K x) (kcell x) ∗ reached ER (kcell x) 0) := by
  unfold ctx
  iintro ⟨H, -⟩
  iapply (records_at m ρ K x); iexact H
theorem ctx_lev : ctx (F := F) m ρ K ⊢ (levAts L lv : sProp 𝕄) := by
  unfold ctx
  iintro ⟨-, H⟩; iexact H

abbrev tok (x : Dev nD × CI) (d : Fin 15) : sProp 𝕄 := dutyTok ER (kcell x) 0 d
abbrev at0 (x : Dev nD × CI) : sProp 𝕄 := atPos ER (kcell x) 0 ∅ 0
abbrev at1 (x : Dev nD × CI) : sProp 𝕄 := atPos ER (kcell x) (0 + 1) ∅ 0
abbrev crd (x : Dev nD × CI) (n : ℕ) : sProp 𝕄 := cred (tallyAt (kcell x) () n)

/-! ## Along a list -/

theorem run_chain {A : Type} (c : Dev nD) (f : A → P F PUnit) (R : sProp 𝕄) [BI.Persistent R] (I : List A → sProp 𝕄) (pre post : A → sProp 𝕄)
    (step : ∀ (a : A) (l : List A) (T : P F PUnit) (Q : PUnit → sProp 𝕄),
      iprop(R ∗ I (a :: l) ∗ pre a ∗ ((I l ∗ post a) -∗ Runs c T Q)) ⊢ Runs c (f a >>= fun _ => T) Q)
    (l : List A) (T : P F PUnit) (Q : PUnit → sProp 𝕄) :
    iprop(R ∗ I l ∗ bigSepL l pre ∗ ((I [] ∗ bigSepL l post) -∗ Runs c T Q)) ⊢ Runs c (chain f l T) Q := by
  induction l with
  | nil =>
    show _ ⊢ Runs c T Q
    iintro ⟨-, HI, -, Hk⟩
    iapply Hk
    isplitl [HI]; · iexact HI
    rw [bigSepL_nil]; iempintro
  | cons a l ih =>
    show _ ⊢ Runs c (f a >>= fun _ => chain f l T) Q
    rw [bigSepL_cons', bigSepL_cons']
    iintro ⟨#HR, HI, ⟨Ha, Hl⟩, Hk⟩
    iapply (step a l (chain f l T) Q)
    isplitr; · iexact HR
    isplitl [HI]; · iexact HI
    isplitl [Ha]; · iexact Ha
    iintro ⟨HI, Hp⟩
    iapply ih
    isplitr; · iexact HR
    isplitl [HI]; · iexact HI
    isplitl [Hl]; · iexact Hl
    iintro ⟨HI, Hps⟩
    iapply Hk
    isplitl [HI]; · iexact HI
    isplitl [Hp] <;> iassumption

/-! ## Signals -/

/-- What device `c` hands to its peer `r` with its signal. -/
def lend (c : Dev nD) (r : Fin 15) : sProp 𝕄 := bigSep Finset.univ fun k : Fin 2 => iprop(slotAny (F := F) c k r ∗ oAny (F := F) c (peer c r) k)

theorem barPay_peer (c : Dev nD) (r : Fin 15) : barPay (F := F) (peer c r) r = lend c r := by
  unfold barPay lend; rw [peer_rev]

theorem sig_step (c : Dev nD) (r : Fin 15) (l : List (Dev nD × CI)) (T : P F PUnit) (Q : PUnit → sProp 𝕄) :
    iprop(ctx m ρ K ∗ owing c ((peer c r, none) :: l) ∗ (tok (F := F) (peer c r, none) r ∗ lend c r) ∗ ((owing c l ∗ emp) -∗ Runs c T Q))
      ⊢ Runs c (sig1 (peer c r) >>= fun _ => T) Q := by
  simp only [sig1, semSignalWord, Prog.lift, Prog.bind_op, Prog.bind_ret]
  unfold owing
  iintro ⟨#Hc, ⟨%W, HO⟩, ⟨Ht, Hp⟩, Hk⟩
  ihave #Hr := (ctx_at m ρ K (peer c r, none)) $$ Hc
  icases Hr with ⟨#Hi, #Hr⟩
  iapply (Rounds.wp_signal 𝒱₀ ER (Rd m ρ) (c : Thread nD τ) none (dst := (peer c r : Thread nD τ)) (κ := K (peer c r, none))
      (d := r) (by rw [duties_eq m ρ (peer c r, none)]; exact Finset.mem_univ _) ((amount_eq m ρ (peer c r, none) r).trans rfl) () (owe l) rfl)
    $$ [HO Ht Hp]
  · isplitr; · iexact Hi
    isplitl [HO]; · iexact HO
    isplitl [Ht]; · iexact Ht
    isplitl [Hp]
    · rw [payload_eq m ρ (peer c r, none), show pay m ρ (peer c r, none) r = barPay (peer c r) r from rfl, barPay_peer]; iexact Hp
    iexact Hr
  iintro HO
  iapply Hk
  isplitl [HO]; · iexists W; iexact HO
  iempintro

/-! ## Waits -/

theorem wait_bar (c : Dev nD) (l : List (Dev nD × CI)) (hl : ∀ x ∈ l, 1 < lvI x.2) (T : P F PUnit) (Q : PUnit → sProp 𝕄) :
    iprop(ctx m ρ K ∗ owing c l ∗ crd (F := F) (c, none) 15 ∗ at0 (F := F) (c, none)
        ∗ ((owing c l ∗ at1 (F := F) (c, none) ∗ bigSep Finset.univ fun d => barPay (F := F) c d) -∗ Runs c T Q))
      ⊢ Runs c (semWaitWord barS 15#32 >>= fun _ => T) Q := by
  simp only [semWaitWord, Prog.lift, Prog.bind_op, Prog.bind_ret]
  unfold owing
  iintro ⟨#Hc, ⟨%W, HO⟩, Hcr, Hat, Hk⟩
  ihave #Hr := (ctx_at m ρ K (c, none)) $$ Hc
  icases Hr with ⟨#Hi, -⟩
  ihave #Hlev := (ctx_lev m ρ K) $$ Hc
  iapply (Rounds.wp_wait_rest_token 𝒱₀ ER (Rd m ρ) (c : Thread nD τ) none (κ := K (c, none))
      (wpE_semWait_eq 𝒱₀ (c : Thread nD τ) none Set.univ) (Set.mem_univ _) () (O := owe l) (W := W) (R := 0) (m := 0) (T := ∅)
      (by rw [expect_bar m ρ c]; decide)) $$ [Hcr HO Hat]
  · isplitr; · iexact Hi
    isplitl [Hcr]; · iexact Hcr
    isplitl [HO]; · iexact HO
    isplitr; · iapply (mayWait_of c (.reg barS) 1 l (le_of_eq (lv_kcell (c, none) ())) hl); iexact Hlev
    iexact Hat
  iintro ⟨HO, Hat, -, Hpay⟩
  ihave Hp := (Entails.of_eq (rest_bar m ρ c)) $$ Hpay
  iapply Hk
  isplitl [HO]; · iexists _; iexact HO
  isplitl [Hat]; · iexact Hat
  iexact Hp

theorem wait_xfer (c : Dev nD) (a : Fin 4) (k : Fin 2) (r : Fin 15) (l : List (Dev nD × CI)) (hl : ∀ x ∈ l, (![0, 2, 0, 3] : Fin 4 → ℕ) a < lvI x.2)
    {w : TpuEff nD τ sig (Elt F) Λ₀ .tc PUnit}
    (hw : ∀ Q : PUnit → sProp 𝕄, wpE (defs₀ (F := F)) 𝒱₀ (c : Thread nD τ) none Set.univ w Q = waitSpec (c : Thread nD τ) Set.univ (csem (some (a, k, r))) N Q)
    (T : P F PUnit) (Q : PUnit → sProp 𝕄) :
    iprop(ctx m ρ K ∗ owing c l ∗ (crd (F := F) (c, some (a, k, r)) N ∗ at0 (F := F) (c, some (a, k, r)))
        ∗ ((owing c l ∗ (at1 (F := F) (c, some (a, k, r)) ∗ xferPay m ρ c a k r)) -∗ Runs c T Q))
      ⊢ Runs c (.op w fun _ => T) Q := by
  unfold owing
  iintro ⟨#Hc, ⟨%W, HO⟩, ⟨Hcr, Hat⟩, Hk⟩
  ihave #Hr := (ctx_at m ρ K (c, some (a, k, r))) $$ Hc
  icases Hr with ⟨#Hi, -⟩
  ihave #Hlev := (ctx_lev m ρ K) $$ Hc
  iapply (Rounds.wp_wait_rest_token 𝒱₀ ER (Rd m ρ) (c : Thread nD τ) none (κ := K (c, some (a, k, r)))
      hw (Set.mem_univ _) () (O := owe l) (W := W) (R := 0) (m := 0) (T := ∅)
      (by rw [Nat.zero_add]; exact (expect_xfer m ρ c a k r).symm)) $$ [Hcr HO Hat]
  · isplitr; · iexact Hi
    isplitl [Hcr]; · iexact Hcr
    isplitl [HO]; · iexact HO
    isplitr; · iapply (mayWait_of c (csem (some (a, k, r))) ((![0, 2, 0, 3] : Fin 4 → ℕ) a) l (le_of_eq (lv_kcell (c, some (a, k, r)) ())) hl); iexact Hlev
    iexact Hat
  iintro ⟨HO, Hat, -, Hpay⟩
  ihave Hp := (Entails.of_eq (rest_xfer m ρ c a k r)) $$ Hpay
  iapply Hk
  isplitl [HO]; · iexists _; iexact HO
  isplitl [Hat]; · iexact Hat
  iexact Hp

theorem waitTop_step (c : Dev nD) (a : Fin 4) (k : Fin 2) (r : Fin 15) (l : List (Dev nD × CI)) (hl : ∀ x ∈ l, (![0, 2, 0, 3] : Fin 4 → ℕ) a < lvI x.2)
    (T : P F PUnit) (Q : PUnit → sProp 𝕄) :
    iprop(ctx m ρ K ∗ owing c l ∗ (crd (F := F) (c, some (a, k, r)) N ∗ at0 (F := F) (c, some (a, k, r)))
        ∗ ((owing c l ∗ (at1 (F := F) (c, some (a, k, r)) ∗ xferPay m ρ c a k r)) -∗ Runs c T Q))
      ⊢ Runs c (waitTop (arr a) k r >>= fun _ => T) Q := by
  simp only [waitTop, Prog.lift, Prog.bind_op, Prog.bind_ret]
  exact wait_xfer m ρ K c a k r l hl (wpE_waitDma2_eq 𝒱₀ (c : Thread nD τ) none Set.univ) T Q

theorem slot_credit (k : Fin 2) (r : Fin 15) : (slotM k r).view.dmaCredit = N := rfl
theorem xferPay_slot (c : Dev nD) (k : Fin 2) (r : Fin 15) : xferPay (F := F) m ρ c 1 k r = slotGot m ρ c k r := rfl

theorem waitSlot_step (c : Dev nD) (k : Fin 2) (r : Fin 15) (l : List (Dev nD × CI)) (hl : ∀ x ∈ l, 2 < lvI x.2) (T : P F PUnit) (Q : PUnit → sProp 𝕄) :
    iprop(ctx m ρ K ∗ owing c l ∗ (crd (F := F) (c, some (1, k, r)) N ∗ at0 (F := F) (c, some (1, k, r)))
        ∗ ((owing c l ∗ (at1 (F := F) (c, some (1, k, r)) ∗ slotGot m ρ c k r)) -∗ Runs c T Q))
      ⊢ Runs c (waitSlot k r >>= fun _ => T) Q := by
  simp only [waitSlot, Prog.lift, Prog.bind_op, Prog.bind_ret]
  rw [← xferPay_slot]
  refine wait_xfer m ρ K c 1 k r l hl (fun Q => ?_) T Q
  rw [← slot_credit k r]
  exact wpE_waitDma2_eq 𝒱₀ (c : Thread nD τ) none Set.univ Q

end Cert.KernelIdeal

end
-- ==== Proof.Sends.lean ====
/-
  The rules for the two kinds of send, for the additions and for the store of a sum.
-/
module

public import proofs.«01_k».proof.Proof.Steps

@[expose] public section

set_option maxRecDepth 65536

noncomputable section

namespace Cert.KernelIdeal

open Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

theorem duty_mem (c : Dev nD) (a : Fin 4) (k : Fin 2) (r : Fin 15) : (0 : Fin 15) ∈ (Rd (F := F) m ρ).duties (kcell (c, some (a, k, r))) 0 := by
  rw [duties_eq m ρ (c, some (a, k, r))]; exact Finset.mem_singleton_self _

theorem pays (c : Dev nD) (a : Fin 4) (k : Fin 2) (r : Fin 15) {A : sProp 𝕄} (h : A ⊢ xferPay m ρ c a k r) :
    A ⊢ (Rd (F := F) m ρ).payload (kcell (c, some (a, k, r))) 0 0 := by
  rw [payload_eq m ρ (c, some (a, k, r))]; exact h

/-- Writing back what a view reads off `g` gives `g` under the view. -/
theorem write_read {κ : Kind} {sp : Space} {s : Shape} {e : EltTy} (v : View sig κ sp s e) (f g : v.ty.Contents (Elt F)) (i : v.ty.shape.Idx) (hi : i ∈ v.set) :
    v.write (Elt F) f (v.read (Elt F) g) Finset.univ i = g i := by
  obtain ⟨x, rfl⟩ := View.exists_emb_of_mem_set _ hi
  rw [View.write_emb_of_mem _ _ (Finset.mem_univ x), View.read_apply, cast_cast, cast_eq]

/-! ## Sends of the first phase -/

theorem slot_lands (c : Dev nD) (k : Fin 2) (r : Fin 15) (fd : Buf (Elt F) ((slotM k r.rev).view.loc (peer c r : Thread nD τ))) :
    slotPts (F := F) (peer c r) k r.rev ((slotM k r.rev).view.write (Elt F) fd (rdX m ρ c (peer c r) k) Finset.univ) ⊢ slotGot m ρ (peer c r) k r.rev := by
  unfold slotGot
  iintro H
  iexists ((slotM k r.rev).view.write (Elt F) fd (rdX m ρ c (peer c r) k) Finset.univ)
  isplitr
  · ipureintro
    rw [View.read_write_univ, peer_rev]
  iexact H

theorem rs_step (c : Dev nD) (k : Fin 2) (r : Fin 15) (l : List (Dev nD × CI)) (T : P F PUnit) (Q : PUnit → sProp 𝕄) :
    iprop(ctx m ρ K ∗ owing c ((peer c r, some (1, k, r.rev)) :: l)
        ∗ (xPts m ρ c (peer c r) k ∗ slotAny (peer c r) k r.rev ∗ tok (F := F) (c, some (0, k, r)) 0 ∗ tok (F := F) (peer c r, some (1, k, r.rev)) 0)
        ∗ ((owing c l ∗ crd (F := F) (c, some (0, k, r)) N) -∗ Runs c T Q))
      ⊢ Runs c (rsOp c k r >>= fun _ => T) Q := by
  simp only [rsOp, Prog.lift, Prog.bind_op, Prog.bind_ret]
  unfold owing slotAny
  iintro ⟨#Hc, ⟨%W, HO⟩, ⟨Hx, ⟨%fd, Hs⟩, Ht1, Ht2⟩, Hk⟩
  ihave #H1 := (ctx_at m ρ K (c, some (0, k, r))) $$ Hc
  ihave #H2 := (ctx_at m ρ K (peer c r, some (1, k, r.rev))) $$ Hc
  icases H1 with ⟨#Hi1, #Hr1⟩
  icases H2 with ⟨#Hi2, #Hr2⟩
  unfold xPts slotPts
  iapply (Rounds.wp_send_pointsTo 𝒱₀ ER (Rd m ρ) (c : Thread nD τ) none (κ₁ := K (c, some (0, k, r))) (κ₂ := K (peer c r, some (1, k, r.rev)))
      (r₁ := 0) (r₂ := 0) (d₁ := 0) (d₂ := 0) (fd := fd)
      (duty_mem m ρ c 0 k r)
      (duty_mem m ρ (peer c r) 1 k r.rev)
      () () N (show (slotM k r.rev).view.amount (.dma (semAt cc0_scratch2 k r.rev)) = N from slot_credit k r.rev) (amount_eq m ρ (c, some (0, k, r)) 0) (amount_eq m ρ (peer c r, some (1, k, r.rev)) 0) (owe l) rfl (W := W)
      (pays m ρ c 0 k r (BI.Entails.refl _))
      (pays m ρ (peer c r) 1 k r.rev (slot_lands m ρ c k r fd)))
    $$ [Hx Hs HO Ht1 Ht2]
  · isplitr; · iexact Hi1
    isplitr; · iexact Hi2
    isplitl [Hx]; · iexact Hx
    isplitl [Hs]; · iexact Hs
    isplitl [HO]; · iexact HO
    isplitl [Ht1]; · iexact Ht1
    isplitr; · iexact Hr1
    isplitl [Ht2]; · iexact Ht2
    iexact Hr2
  iintro ⟨Hcr, HO⟩
  iapply Hk
  isplitl [HO]; · iexists W; iexact HO
  iexact Hcr

/-! ## Sends of the second phase -/

/-- Writing the result's own rows over a block leaves the block holding the result. -/
theorem oPts_write (c q : Dev nD) (k : Fin 2) (f : Buf (Elt F) ((oBlk q k).view.loc (c : Thread nD τ))) :
    oPts (F := F) c q k fullShare ((oBlk q k).view.write (Elt F) f ((oBlk q k).view.read (Elt F) (outC m ρ)) Finset.univ) = oPts c q k fullShare (outC m ρ) := by
  unfold oPts
  exact pointsTo_congr fun i hi => write_read (oBlk q k).view f (outC m ρ) i hi

theorem ag_step (c : Dev nD) (k : Fin 2) (r : Fin 15) (l : List (Dev nD × CI)) (T : P F PUnit) (Q : PUnit → sProp 𝕄) :
    iprop(ctx m ρ K ∗ owing c ((peer c r, some (3, k, r.rev)) :: l)
        ∗ (oPts c c k (shareTok fullShare 15 r) (outC m ρ) ∗ oAny (peer c r) c k ∗ tok (F := F) (c, some (2, k, r)) 0 ∗ tok (F := F) (peer c r, some (3, k, r.rev)) 0)
        ∗ ((owing c l ∗ crd (F := F) (c, some (2, k, r)) N) -∗ Runs c T Q))
      ⊢ Runs c (agOp c k r >>= fun _ => T) Q := by
  simp only [agOp, Prog.lift, Prog.bind_op, Prog.bind_ret]
  unfold owing oAny
  iintro ⟨#Hc, ⟨%W, HO⟩, ⟨Hx, ⟨%fd, Hs⟩, Ht1, Ht2⟩, Hk⟩
  ihave #H1 := (ctx_at m ρ K (c, some (2, k, r))) $$ Hc
  ihave #H2 := (ctx_at m ρ K (peer c r, some (3, k, r.rev))) $$ Hc
  icases H1 with ⟨#Hi1, #Hr1⟩
  icases H2 with ⟨#Hi2, #Hr2⟩
  have hp : oPts (F := F) (peer c r) c k fullShare ((oBlk c k).view.write (Elt F) fd ((oBlk c k).view.read (Elt F) (outC m ρ)) Finset.univ)
      ⊢ xferPay m ρ (peer c r) 3 k r.rev := by
    rw [oPts_write, show xferPay m ρ (peer c r) 3 k r.rev = oPts (peer c r) (peer (peer c r) r.rev) k fullShare (outC m ρ) from rfl, peer_rev]
  unfold oPts at hp ⊢
  iapply (Rounds.wp_send_pointsTo 𝒱₀ ER (Rd m ρ) (c : Thread nD τ) none (κ₁ := K (c, some (2, k, r))) (κ₂ := K (peer c r, some (3, k, r.rev)))
      (r₁ := 0) (r₂ := 0) (d₁ := 0) (d₂ := 0) (fd := fd)
      (duty_mem m ρ c 2 k r)
      (duty_mem m ρ (peer c r) 3 k r.rev)
      () () N rfl (amount_eq m ρ (c, some (2, k, r)) 0) (amount_eq m ρ (peer c r, some (3, k, r.rev)) 0) (owe l) rfl (W := W)
      (pays m ρ c 2 k r (BI.Entails.refl _))
      (pays m ρ (peer c r) 3 k r.rev hp))
    $$ [Hx Hs HO Ht1 Ht2]
  · isplitr; · iexact Hi1
    isplitr; · iexact Hi2
    isplitl [Hx]; · iexact Hx
    isplitl [Hs]; · iexact Hs
    isplitl [HO]; · iexact HO
    isplitl [Ht1]; · iexact Ht1
    isplitr; · iexact Hr1
    isplitl [Ht2]; · iexact Ht2
    iexact Hr2
  iintro ⟨Hcr, HO⟩
  iapply Hk
  isplitl [HO]; · iexists W; iexact HO
  iexact Hcr

/-! ## Reading, adding, storing -/

theorem xPts_access (c q : Dev nD) (k : Fin 2) :
    xPts (F := F) m ρ c q k = ((xM.access (xR q k)).loc (c : Thread nD τ) ↦[(xM.access (xR q k)).set]{fullShare} xstg m ρ c) :=
  congrArg (fun S => ((xM.access (xR q k)).loc (c : Thread nD τ) ↦[S]{fullShare} xstg m ρ c : sProp 𝕄)) (View.set_reshape _ _)
theorem slotPts_access (c : Dev nD) (k : Fin 2) (r : Fin 15) (f : Buf (Elt F) ((slotM k r).view.loc (c : Thread nD τ))) :
    slotPts (F := F) c k r f = ((rM.access (slotR k r)).loc (c : Thread nD τ) ↦[(rM.access (slotR k r)).set]{fullShare} f) :=
  congrArg (fun S => ((rM.access (slotR k r)).loc (c : Thread nD τ) ↦[S]{fullShare} f : sProp 𝕄)) (View.set_reshape _ _)
theorem oPts_access (c q : Dev nD) (k : Fin 2) (f : Buf (Elt F) ((oBlk q k).view.loc (c : Thread nD τ))) :
    oPts (F := F) c q k fullShare f = ((oM.access (oR q k)).loc (c : Thread nD τ) ↦[(oM.access (oR q k)).set]{fullShare} f) := rfl

theorem own_step (c : Dev nD) (k : Fin 2) (T : Vec F S1x8x256 .f32 → P F PUnit) (T' : FVec F S8x256 .f32 → P F PUnit) (hT : ∀ v, T v = T' (flat v)) (Q : PUnit → sProp 𝕄) :
    iprop(xPts m ρ c c k ∗ (xPts m ρ c c k -∗ Runs c (T' (rdX m ρ c c k)) Q)) ⊢ Runs c (ownOp c k >>= T) Q := by
  simp only [ownOp, Prog.lift, Prog.bind_op, Prog.bind_ret]
  rw [xPts_access]
  iintro ⟨Hx, Hk⟩
  iapply (wp_load_rect 𝒱₀ (c : Thread nD τ) none Set.univ (m := xM) (r := xR c k) (f := xstg m ρ c) (Finset.Subset.refl _)) $$ Hx
  iintro Hx
  rw [hT, show flat ((xM.access (xR c k)).read (Elt F) (xstg m ρ c)) = rdX m ρ c c k from rfl]
  iapply Hk; iexact Hx

theorem slot_step (c : Dev nD) (k : Fin 2) (r : Fin 15) (T : Vec F S1x8x256 .f32 → P F PUnit) (T' : FVec F S8x256 .f32 → P F PUnit) (hT : ∀ v, T v = T' (flat v)) (Q : PUnit → sProp 𝕄) :
    iprop(slotGot m ρ c k r ∗ (slotGot m ρ c k r -∗ Runs c (T' (rdX m ρ (peer c r) c k)) Q)) ⊢ Runs c (loadSlot k r >>= T) Q := by
  simp only [loadSlot, Prog.lift, Prog.bind_op, Prog.bind_ret]
  unfold slotGot
  iintro ⟨⟨%f, %hf, Hs⟩, Hk⟩
  ihave Hs := (Entails.of_eq (slotPts_access (F := F) c k r f)) $$ Hs
  iapply (wp_load_rect 𝒱₀ (c : Thread nD τ) none Set.univ (m := rM) (r := slotR k r) (f := f) (Finset.Subset.refl _)) $$ Hs
  iintro Hs
  rw [hT, show flat ((rM.access (slotR k r)).read (Elt F) f) = (slotM k r).view.read (Elt F) f from rfl, hf]
  iapply Hk
  iexists f
  isplitr; · ipureintro; exact hf
  iapply (Entails.of_eq (slotPts_access (F := F) c k r f).symm); iexact Hs

/-- The accumulator after the slots of a list. -/
def accum (c : Dev nD) (k : Fin 2) (l : List (Fin 15)) (acc : FVec F S8x256 .f32) : FVec F S8x256 .f32 :=
  l.foldl (fun acc r => addf acc (rdX m ρ (peer c r) c k)) acc

theorem gather_run (c : Dev nD) (k : Fin 2) (o : List (Dev nD × CI)) (ho : ∀ x ∈ o, 2 < lvI x.2) (l : List (Fin 15)) :
    ∀ (acc : FVec F S8x256 .f32) (T : FVec F S8x256 .f32 → P F PUnit) (Q : PUnit → sProp 𝕄),
    iprop(ctx m ρ K ∗ owing c o ∗ bigSepL l (fun r => iprop(crd (F := F) (c, some (1, k, r)) N ∗ at0 (F := F) (c, some (1, k, r))))
        ∗ ((owing c o ∗ bigSepL l (fun r => iprop(at1 (F := F) (c, some (1, k, r)) ∗ slotGot m ρ c k r))) -∗ Runs c (T (accum m ρ c k l acc)) Q))
      ⊢ Runs c (gather k l acc T) Q := by
  induction l with
  | nil =>
    intro acc T Q
    show _ ⊢ Runs c (T acc) Q
    iintro ⟨-, HO, -, Hk⟩
    iapply Hk
    isplitl [HO]; · iexact HO
    rw [bigSepL_nil]; iempintro
  | cons r l ih =>
    intro acc T Q
    show _ ⊢ Runs c (waitSlot k r >>= fun _ => loadSlot k r >>= fun v => gather k l (addf acc (flat v)) T) Q
    rw [bigSepL_cons', bigSepL_cons']
    iintro ⟨#Hc, HO, ⟨Ha, Hl⟩, Hk⟩
    iapply (waitSlot_step m ρ K c k r o ho)
    isplitr; · iexact Hc
    isplitl [HO]; · iexact HO
    isplitl [Ha]; · iexact Ha
    iintro ⟨HO, Hat, Hs⟩
    iapply (slot_step m ρ c k r _ (fun v => gather k l (addf acc v) T) (fun _ => rfl))
    isplitl [Hs]; · iexact Hs
    iintro Hs
    iapply (ih (addf acc (rdX m ρ (peer c r) c k)) T Q)
    isplitr; · iexact Hc
    isplitl [HO]; · iexact HO
    isplitl [Hl]; · iexact Hl
    iintro ⟨HO, Hl⟩
    iapply Hk
    isplitl [HO]; · iexact HO
    isplitl [Hat Hs]; · isplitl [Hat] <;> iassumption
    iexact Hl

theorem put_step (c : Dev nD) (k : Fin 2) (T : P F PUnit) (Q : PUnit → sProp 𝕄) :
    iprop(oAny c c k ∗ (oPts c c k fullShare (outC m ρ) -∗ Runs c T Q))
      ⊢ Runs c (peekOp c k >>= fun _ => putOp c k (outV m ρ c k) >>= fun _ => T) Q := by
  simp only [peekOp, putOp, Prog.lift, Prog.bind_op, Prog.bind_ret]
  unfold oAny
  iintro ⟨⟨%f, Ho⟩, Hk⟩
  have e := oPts_write m ρ c c k f
  rw [read_outC] at e
  ihave Ho := (Entails.of_eq (oPts_access (F := F) c c k f)) $$ Ho
  iapply (wp_load_rect 𝒱₀ (c : Thread nD τ) none Set.univ (m := oM) (r := oR c k) (f := f) (Finset.Subset.refl _)) $$ Ho
  iintro Ho
  iapply (wp_store 𝒱₀ (c : Thread nD τ) none Set.univ (m := oM) (r := oR c k) (Mk := Finset.univ) (S := (oM.access (oR c k)).set) (f := f) (Finset.Subset.refl _)) $$ Ho
  iintro Ho
  iapply Hk
  iapply (Entails.of_eq ((oPts_access (F := F) c c k _).symm.trans e)); iexact Ho

end Cert.KernelIdeal

end
-- ==== Proof.Run.lean ====
/-
  The kernel body, phase by phase, from the blocks a device holds when it starts to the blocks it holds at the end.
-/
module

public import proofs.«01_k».proof.Proof.Sends

@[expose] public section

set_option maxRecDepth 65536

noncomputable section

namespace Cert.KernelIdeal

open Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

/-- Something for every peer. -/
abbrev each (Φ : Fin 15 → sProp 𝕄) : sProp 𝕄 := bigSep Finset.univ Φ

theorem each_sep (Φ Ψ : Fin 15 → sProp 𝕄) : each (fun r => iprop(Φ r ∗ Ψ r)) = iprop(each Φ ∗ each Ψ) := bigSep_sep' _ _ _

theorem each_list (l : List (Fin 15)) (hn : l.Nodup) (hc : Finset.univ = l.toFinset) (Φ : Fin 15 → sProp 𝕄) : each Φ = bigSepL l Φ :=
  bigSep_univ_eq_bigSepL l hc hn Φ

theorem run_each (c : Dev nD) (f : Fin 15 → P F PUnit) (R : sProp 𝕄) [BI.Persistent R] (I : List (Fin 15) → sProp 𝕄) (pre post : Fin 15 → sProp 𝕄)
    (step : ∀ (a : Fin 15) (l : List (Fin 15)) (T : P F PUnit) (Q : PUnit → sProp 𝕄),
      iprop(R ∗ I (a :: l) ∗ pre a ∗ ((I l ∗ post a) -∗ Runs c T Q)) ⊢ Runs c (f a >>= fun _ => T) Q)
    (l : List (Fin 15)) (hn : l.Nodup) (hc : Finset.univ = l.toFinset) (T : P F PUnit) (Q : PUnit → sProp 𝕄) :
    iprop(R ∗ I l ∗ each pre ∗ ((I [] ∗ each post) -∗ Runs c T Q)) ⊢ Runs c (chain f l T) Q := by
  rw [each_list l hn hc, each_list l hn hc]
  exact run_chain c f R I pre post step l T Q

/-! ## The phases -/

theorem run_signals (c : Dev nD) (o : List (Dev nD × CI)) (T : P F PUnit) (Q : PUnit → sProp 𝕄) :
    iprop(ctx m ρ K ∗ owing c (sigL c asc ++ o) ∗ each (fun r => iprop(tok (F := F) (peer c r, none) r ∗ lend c r))
        ∗ ((owing c o ∗ each fun _ => iprop(emp)) -∗ Runs c T Q))
      ⊢ Runs c (chain (fun r => sig1 (peer c r)) asc T) Q :=
  run_each c (fun r => sig1 (peer c r)) (ctx m ρ K) (fun l => owing c (sigL c l ++ o)) _ _
    (fun r l => sig_step m ρ K c r (sigL c l ++ o)) asc (by decide) (by decide) T Q

theorem run_rs (c : Dev nD) (k : Fin 2) (o : List (Dev nD × CI)) (T : P F PUnit) (Q : PUnit → sProp 𝕄) :
    iprop(ctx m ρ K ∗ owing c (xferL c 1 k far ++ o)
        ∗ each (fun r => iprop(xPts m ρ c (peer c r) k ∗ slotAny (peer c r) k r.rev ∗ tok (F := F) (c, some (0, k, r)) 0 ∗ tok (F := F) (peer c r, some (1, k, r.rev)) 0))
        ∗ ((owing c o ∗ each fun r => crd (F := F) (c, some (0, k, r)) N) -∗ Runs c T Q))
      ⊢ Runs c (chain (rsOp c k) far T) Q :=
  run_each c (rsOp c k) (ctx m ρ K) (fun l => owing c (xferL c 1 k l ++ o)) _ _
    (fun r l => rs_step m ρ K c k r (xferL c 1 k l ++ o)) far (by decide) (by decide) T Q

theorem run_ag (c : Dev nD) (k : Fin 2) (o : List (Dev nD × CI)) (T : P F PUnit) (Q : PUnit → sProp 𝕄) :
    iprop(ctx m ρ K ∗ owing c (xferL c 3 k far ++ o)
        ∗ each (fun r => iprop(oPts c c k (shareTok fullShare 15 r) (outC m ρ) ∗ oAny (peer c r) c k ∗ tok (F := F) (c, some (2, k, r)) 0 ∗ tok (F := F) (peer c r, some (3, k, r.rev)) 0))
        ∗ ((owing c o ∗ each fun r => crd (F := F) (c, some (2, k, r)) N) -∗ Runs c T Q))
      ⊢ Runs c (chain (agOp c k) far T) Q :=
  run_each c (agOp c k) (ctx m ρ K) (fun l => owing c (xferL c 3 k l ++ o)) _ _
    (fun r l => ag_step m ρ K c k r (xferL c 3 k l ++ o)) far (by decide) (by decide) T Q

/-- The cell of a completed wait. -/
abbrev pend (c : Dev nD) (a : Fin 4) (k : Fin 2) (r : Fin 15) : sProp 𝕄 := iprop(crd (F := F) (c, some (a, k, r)) N ∗ at0 (F := F) (c, some (a, k, r)))
abbrev done (c : Dev nD) (a : Fin 4) (k : Fin 2) (r : Fin 15) : sProp 𝕄 := iprop(at1 (F := F) (c, some (a, k, r)) ∗ xferPay m ρ c a k r)

theorem nil_lv (n : ℕ) : ∀ x ∈ ([] : List (Dev nD × CI)), n < lvI x.2 := fun x hx => absurd hx List.not_mem_nil

theorem run_arrivals (c : Dev nD) (k : Fin 2) (T : P F PUnit) (Q : PUnit → sProp 𝕄) :
    iprop(ctx m ρ K ∗ owing c [] ∗ each (pend (F := F) c 3 k) ∗ ((owing c [] ∗ each (done m ρ c 3 k)) -∗ Runs c T Q))
      ⊢ Runs c (chain (waitTop cc0_scratch4 k) near T) Q :=
  run_each c (waitTop cc0_scratch4 k) (ctx m ρ K) (fun _ => owing c []) _ _
    (fun r _ => waitTop_step m ρ K c 3 k r [] (nil_lv _)) near (by decide) (by decide) T Q

theorem close_step (c : Dev nD) (k : Fin 2) (r : Fin 15) (T : P F PUnit) (Q : PUnit → sProp 𝕄) :
    iprop(ctx m ρ K ∗ owing c [] ∗ (pend (F := F) c 0 k r ∗ pend (F := F) c 2 k r) ∗ ((owing c [] ∗ (done m ρ c 0 k r ∗ done m ρ c 2 k r)) -∗ Runs c T Q))
      ⊢ Runs c (closeSends k r >>= fun _ => T) Q := by
  show _ ⊢ Runs c (waitTop (arr 0) k r >>= fun _ => waitTop (arr 2) k r >>= fun _ => T) Q
  iintro ⟨#Hc, HO, ⟨H0, H2⟩, Hk⟩
  iapply (waitTop_step m ρ K c 0 k r [] (nil_lv _))
  isplitr; · iexact Hc
  isplitl [HO]; · iexact HO
  isplitl [H0]; · iexact H0
  iintro ⟨HO, H0⟩
  iapply (waitTop_step m ρ K c 2 k r [] (nil_lv _))
  isplitr; · iexact Hc
  isplitl [HO]; · iexact HO
  isplitl [H2]; · iexact H2
  iintro ⟨HO, H2⟩
  iapply Hk
  isplitl [HO]; · iexact HO
  isplitl [H0] <;> iassumption

theorem run_closes (c : Dev nD) (k : Fin 2) (T : P F PUnit) (Q : PUnit → sProp 𝕄) :
    iprop(ctx m ρ K ∗ owing c [] ∗ each (fun r => iprop(pend (F := F) c 0 k r ∗ pend (F := F) c 2 k r))
        ∗ ((owing c [] ∗ each fun r => iprop(done m ρ c 0 k r ∗ done m ρ c 2 k r)) -∗ Runs c T Q))
      ⊢ Runs c (chain (closeSends k) asc T) Q :=
  run_each c (closeSends k) (ctx m ρ K) (fun _ => owing c []) _ _ (fun r _ => close_step m ρ K c k r) asc (by decide) (by decide) T Q

theorem lv_xfer (c : Dev nD) (a : Fin 4) (k : Fin 2) (n : ℕ) (ha : n < (![0, 2, 0, 3] : Fin 4 → ℕ) a) (o : List (Dev nD × CI)) (ho : ∀ x ∈ o, n < lvI x.2) :
    ∀ x ∈ xferL c a k far ++ o, n < lvI x.2 := by
  intro x hx
  rcases List.mem_append.mp hx with h | h
  · obtain ⟨r, -, rfl⟩ := List.mem_map.mp h
    exact ha
  · exact ho x h

theorem oPts_share (c q : Dev nD) (k : Fin 2) (f : Buf (Elt F) ((oBlk q k).view.loc (c : Thread nD τ))) :
    oPts (F := F) c q k fullShare f ⊢ iprop(oPts c q k (shareDrop fullShare 15) f ∗ each fun r => oPts c q k (shareTok fullShare 15 r) f) :=
  Transfers.pointsTo_toks_split fullShare 15
theorem oPts_unshare (c q : Dev nD) (k : Fin 2) (f : Buf (Elt F) ((oBlk q k).view.loc (c : Thread nD τ))) :
    iprop(oPts c q k (shareDrop fullShare 15) f ∗ each fun r => oPts c q k (shareTok fullShare 15 r) f) ⊢ oPts (F := F) c q k fullShare f :=
  Transfers.pointsTo_toks_join fullShare 15

/-- What chunk `k` leaves: the sum in place, a reading share of it with every send. -/
def chunkOut (c : Dev nD) (k : Fin 2) : sProp 𝕄 :=
  iprop(xPts m ρ c c k ∗ oPts c c k (shareDrop fullShare 15) (outC m ρ) ∗ each (done m ρ c 1 k) ∗ each fun r => crd (F := F) (c, some (2, k, r)) N)

theorem run_chunk (c : Dev nD) (k : Fin 2) (o : List (Dev nD × CI)) (ho : ∀ x ∈ o, 2 < lvI x.2) (T : P F PUnit) (Q : PUnit → sProp 𝕄) :
    iprop(ctx m ρ K ∗ owing c (xferL c 3 k far ++ o)
        ∗ (xPts m ρ c c k ∗ oAny c c k ∗ each (pend (F := F) c 1 k)
          ∗ each (fun r => iprop(oAny (F := F) (peer c r) c k ∗ tok (F := F) (c, some (2, k, r)) 0 ∗ tok (F := F) (peer c r, some (3, k, r.rev)) 0)))
        ∗ ((owing c o ∗ chunkOut m ρ c k) -∗ Runs c T Q))
      ⊢ Runs c (chunk c k T) Q := by
  unfold chunk chunkOut
  iintro ⟨#Hc, HO, ⟨Hx, Ho, Hp, Ht⟩, Hk⟩
  iapply (own_step m ρ c k _ (fun v => gather k near v fun acc => peekOp c k >>= fun _ => putOp c k acc >>= fun _ => chain (agOp c k) far T) (fun _ => rfl))
  isplitl [Hx]; · iexact Hx
  iintro Hx
  iapply (gather_run m ρ K c k (xferL c 3 k far ++ o) (lv_xfer c 3 k 2 (by decide) o ho) near)
  isplitr; · iexact Hc
  isplitl [HO]; · iexact HO
  isplitl [Hp]
  · iapply (Entails.of_eq (each_list near (by decide) (by decide) (pend (F := F) c 1 k))); iexact Hp
  iintro ⟨HO, Hg⟩
  rw [show accum m ρ c k near (rdX m ρ c c k) = outV m ρ c k from rfl]
  iapply (put_step m ρ c k)
  isplitl [Ho]; · iexact Ho
  iintro Ho
  ihave Ho' := (oPts_share c c k (outC m ρ)) $$ Ho
  icases Ho' with ⟨Hd, Hs⟩
  iapply (run_ag m ρ K c k o)
  isplitr; · iexact Hc
  isplitl [HO]; · iexact HO
  isplitl [Hs Ht]
  · iapply (Entails.of_eq (each_sep _ _).symm)
    isplitl [Hs]; · iexact Hs
    iexact Ht
  iintro ⟨HO, Hcr⟩
  iapply Hk
  isplitl [HO]; · iexact HO
  isplitl [Hx]; · iexact Hx
  isplitl [Hd]; · iexact Hd
  isplitl [Hg]
  · iapply (Entails.of_eq (each_list near (by decide) (by decide) (done m ρ c 1 k)).symm); iexact Hg
  iexact Hcr

/-! ## What a signal brings, peer by peer -/

theorem each_rev (Φ : Fin 15 → sProp 𝕄) : each Φ = each fun r => Φ r.rev := bigSep_univ_equiv Fin.revPerm Φ

theorem arrived (c : Dev nD) : (each fun d => barPay (F := F) c d)
    ⊢ iprop(((each fun r => slotAny (F := F) (peer c r) 0 r.rev) ∗ each fun r => oAny (F := F) (peer c r) c 0)
        ∗ ((each fun r => slotAny (F := F) (peer c r) 1 r.rev) ∗ each fun r => oAny (F := F) (peer c r) c 1)) := by
  rw [each_rev]
  unfold barPay
  simp only [bigSep_fin_two, Fin.rev_rev]
  show (each fun r => iprop((slotAny (F := F) (peer c r) 0 r.rev ∗ oAny (F := F) (peer c r) c 0) ∗ (slotAny (F := F) (peer c r) 1 r.rev ∗ oAny (F := F) (peer c r) c 1))) ⊢ _
  rw [each_sep, each_sep, each_sep]

/-! ## The whole body -/

/-- What chunk `k` needs at the start. -/
def chunkIn (c : Dev nD) (k : Fin 2) : sProp 𝕄 :=
  iprop((each (fun r => xPts m ρ c (peer c r) k) ∗ xPts m ρ c c k ∗ oAny c c k)
    ∗ (each (pend (F := F) c 1 k) ∗ each (pend (F := F) c 3 k))
    ∗ ((each fun r => at0 (F := F) (c, some (0, k, r))) ∗ each fun r => at0 (F := F) (c, some (2, k, r)))
    ∗ ((each fun r => tok (F := F) (c, some (0, k, r)) 0) ∗ (each fun r => tok (F := F) (peer c r, some (1, k, r.rev)) 0)
      ∗ (each fun r => tok (F := F) (c, some (2, k, r)) 0) ∗ each fun r => tok (F := F) (peer c r, some (3, k, r.rev)) 0))

def bodyIn (c : Dev nD) : sProp 𝕄 :=
  iprop(crd (F := F) (c, none) 15 ∗ at0 (F := F) (c, none) ∗ each (fun r => iprop(tok (F := F) (peer c r, none) r ∗ lend c r)) ∗ chunkIn m ρ c 0 ∗ chunkIn m ρ c 1)

/-- What chunk `k` leaves at the end. -/
def chunkEnd (c : Dev nD) (k : Fin 2) : sProp 𝕄 :=
  iprop((xPts m ρ c c k ∗ oPts c c k (shareDrop fullShare 15) (outC m ρ)) ∗ each (done m ρ c 1 k) ∗ each (done m ρ c 3 k)
    ∗ each fun r => iprop(done m ρ c 0 k r ∗ done m ρ c 2 k r))

def bodyOut (c : Dev nD) : sProp 𝕄 := iprop(at1 (F := F) (c, none) ∗ chunkEnd m ρ c 0 ∗ chunkEnd m ρ c 1)

/-- The sends of the first phase, chunk by chunk, from the operand rows, the slots and the tokens. -/
theorem run_rs' (c : Dev nD) (k : Fin 2) (o : List (Dev nD × CI)) (T : P F PUnit) (Q : PUnit → sProp 𝕄) :
    iprop(ctx m ρ K ∗ owing c (xferL c 1 k far ++ o)
        ∗ (each (fun r => xPts m ρ c (peer c r) k) ∗ (each fun r => slotAny (F := F) (peer c r) k r.rev)
          ∗ (each fun r => tok (F := F) (c, some (0, k, r)) 0) ∗ each fun r => tok (F := F) (peer c r, some (1, k, r.rev)) 0)
        ∗ ((owing c o ∗ each fun r => crd (F := F) (c, some (0, k, r)) N) -∗ Runs c T Q))
      ⊢ Runs c (chain (rsOp c k) far T) Q := by
  rw [← each_sep, ← each_sep, ← each_sep]
  exact run_rs m ρ K c k o T Q

theorem run_chunk' (c : Dev nD) (k : Fin 2) (o : List (Dev nD × CI)) (ho : ∀ x ∈ o, 2 < lvI x.2) (T : P F PUnit) (Q : PUnit → sProp 𝕄) :
    iprop(ctx m ρ K ∗ owing c (xferL c 3 k far ++ o)
        ∗ (xPts m ρ c c k ∗ oAny c c k ∗ each (pend (F := F) c 1 k)
          ∗ ((each fun r => oAny (F := F) (peer c r) c k) ∗ (each fun r => tok (F := F) (c, some (2, k, r)) 0) ∗ each fun r => tok (F := F) (peer c r, some (3, k, r.rev)) 0))
        ∗ ((owing c o ∗ chunkOut m ρ c k) -∗ Runs c T Q))
      ⊢ Runs c (chunk c k T) Q := by
  rw [← each_sep, ← each_sep]
  exact run_chunk m ρ K c k o ho T Q

theorem run_closes' (c : Dev nD) (k : Fin 2) (T : P F PUnit) (Q : PUnit → sProp 𝕄) :
    iprop(ctx m ρ K ∗ owing c []
        ∗ (((each fun r => crd (F := F) (c, some (0, k, r)) N) ∗ each fun r => at0 (F := F) (c, some (0, k, r)))
          ∗ ((each fun r => crd (F := F) (c, some (2, k, r)) N) ∗ each fun r => at0 (F := F) (c, some (2, k, r))))
        ∗ ((owing c [] ∗ each fun r => iprop(done m ρ c 0 k r ∗ done m ρ c 2 k r)) -∗ Runs c T Q))
      ⊢ Runs c (chain (closeSends k) asc T) Q := by
  rw [← each_sep, ← each_sep, ← each_sep]
  exact run_closes m ρ K c k T Q

theorem run_ret (c : Dev nD) (Q : PUnit → sProp 𝕄) : (|={Set.univ}=> Q ⟨⟩) ⊢ Runs c (pure ⟨⟩) Q := by
  unfold Runs
  rw [Prog.pure_eq_ret, wp_ret]

theorem run_body (c : Dev nD) (Q : PUnit → sProp 𝕄) :
    iprop(ctx m ρ K ∗ owing c (debts c) ∗ bodyIn m ρ c ∗ ((owing c [] ∗ bodyOut m ρ c) -∗ |={Set.univ}=> Q ⟨⟩)) ⊢ Runs c (bodyAt c) Q := by
  unfold bodyAt bodyIn chunkIn debts
  iintro ⟨#Hc, HO, ⟨Hcb, Hab, Hsig, ⟨⟨Hx0, Hox0, Ho0⟩, ⟨Hp10, Hp30⟩, ⟨Ha00, Ha20⟩, Ht00, Ht10, Ht20, Ht30⟩, ⟨Hx1, Hox1, Ho1⟩, ⟨Hp11, Hp31⟩, ⟨Ha01, Ha21⟩, Ht01, Ht11, Ht21, Ht31⟩, Hk⟩
  iapply (run_signals m ρ K c)
  isplitr; · iexact Hc
  isplitl [HO]; · iexact HO
  isplitl [Hsig]; · iexact Hsig
  iintro ⟨HO, -⟩
  iapply (wait_bar m ρ K c _ (lv_xfer c 1 0 1 (by decide) _ (lv_xfer c 1 1 1 (by decide) _ (lv_xfer c 3 0 1 (by decide) _ (lv_xfer c 3 1 1 (by decide) _ (nil_lv 1))))))
  isplitr; · iexact Hc
  isplitl [HO]; · iexact HO
  isplitl [Hcb]; · iexact Hcb
  isplitl [Hab]; · iexact Hab
  iintro ⟨HO, Hab, Hb⟩
  ihave Hb' := (arrived c) $$ Hb
  icases Hb' with ⟨⟨Hs0, Hq0⟩, Hs1, Hq1⟩
  iapply (run_rs' m ρ K c 0)
  isplitr; · iexact Hc
  isplitl [HO]; · iexact HO
  isplitl [Hx0 Hs0 Ht00 Ht10]
  · isplitl [Hx0]; · iexact Hx0
    isplitl [Hs0]; · iexact Hs0
    isplitl [Ht00] <;> iassumption
  iintro ⟨HO, Hc00⟩
  iapply (run_rs' m ρ K c 1)
  isplitr; · iexact Hc
  isplitl [HO]; · iexact HO
  isplitl [Hx1 Hs1 Ht01 Ht11]
  · isplitl [Hx1]; · iexact Hx1
    isplitl [Hs1]; · iexact Hs1
    isplitl [Ht01] <;> iassumption
  iintro ⟨HO, Hc01⟩
  iapply (run_chunk' m ρ K c 0 _ (lv_xfer c 3 1 2 (by decide) _ (nil_lv 2)))
  isplitr; · iexact Hc
  isplitl [HO]; · iexact HO
  isplitl [Hox0 Ho0 Hp10 Hq0 Ht20 Ht30]
  · isplitl [Hox0]; · iexact Hox0
    isplitl [Ho0]; · iexact Ho0
    isplitl [Hp10]; · iexact Hp10
    isplitl [Hq0]; · iexact Hq0
    isplitl [Ht20] <;> iassumption
  unfold chunkOut
  iintro ⟨HO, Hox0, Ho0, Hd10, Hc20⟩
  iapply (run_chunk' m ρ K c 1 [] (nil_lv 2))
  isplitr; · iexact Hc
  isplitl [HO]; · iexact HO
  isplitl [Hox1 Ho1 Hp11 Hq1 Ht21 Ht31]
  · isplitl [Hox1]; · iexact Hox1
    isplitl [Ho1]; · iexact Ho1
    isplitl [Hp11]; · iexact Hp11
    isplitl [Hq1]; · iexact Hq1
    isplitl [Ht21] <;> iassumption
  unfold chunkOut
  iintro ⟨HO, Hox1, Ho1, Hd11, Hc21⟩
  iapply (run_arrivals m ρ K c 0)
  isplitr; · iexact Hc
  isplitl [HO]; · iexact HO
  isplitl [Hp30]; · iexact Hp30
  iintro ⟨HO, Hd30⟩
  iapply (run_closes' m ρ K c 0)
  isplitr; · iexact Hc
  isplitl [HO]; · iexact HO
  isplitl [Hc00 Ha00 Hc20 Ha20]
  · isplitl [Hc00 Ha00]; · isplitl [Hc00] <;> iassumption
    isplitl [Hc20] <;> iassumption
  iintro ⟨HO, Hd00⟩
  iapply (run_arrivals m ρ K c 1)
  isplitr; · iexact Hc
  isplitl [HO]; · iexact HO
  isplitl [Hp31]; · iexact Hp31
  iintro ⟨HO, Hd31⟩
  iapply (run_closes' m ρ K c 1)
  isplitr; · iexact Hc
  isplitl [HO]; · iexact HO
  isplitl [Hc01 Ha01 Hc21 Ha21]
  · isplitl [Hc01 Ha01]; · isplitl [Hc01] <;> iassumption
    isplitl [Hc21] <;> iassumption
  iintro ⟨HO, Hd01⟩
  iapply (run_ret c Q)
  iapply Hk
  isplitl [HO]; · iexact HO
  unfold bodyOut chunkEnd
  isplitl [Hab]; · iexact Hab
  isplitl [Hox0 Ho0 Hd10 Hd30 Hd00]
  · isplitl [Hox0 Ho0]; · isplitl [Hox0] <;> iassumption
    isplitl [Hd10]; · iexact Hd10
    isplitl [Hd30] <;> iassumption
  isplitl [Hox1 Ho1]; · isplitl [Hox1] <;> iassumption
  isplitl [Hd11]; · iexact Hd11
  isplitl [Hd31] <;> iassumption

end Cert.KernelIdeal

end
-- ==== Proof.Whole.lean ====
/-
  Whole buffers and the blocks they are held in.
-/
module

public import proofs.«01_k».proof.Proof.Run

@[expose] public section

set_option maxRecDepth 65536

noncomputable section

namespace Cert.KernelIdeal

open Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

/-! ## Every device, every cell -/

/-- Something of every device is that of one device and of its peers. -/
theorem devs_split (c : Dev nD) (Φ : Dev nD → sProp 𝕄) : bigSep Finset.univ Φ = iprop(Φ c ∗ each fun r => Φ (peer c r)) := by
  rw [bigSep_univ_at Φ c, others_eq c, bigSep_map]
  rfl

/-- Something of every cell of a device is that of its barrier cell and of the cells of its arrays. -/
theorem cells_option (Φ : CI → sProp 𝕄) : bigSep Finset.univ Φ = iprop(Φ none ∗ bigSep Finset.univ fun j : Fin 4 × Fin 2 × Fin 15 => Φ (some j)) := by
  have e : (Finset.univ.erase none : Finset CI) = Finset.univ.map Function.Embedding.some := by
    ext i
    rw [Finset.mem_erase, Finset.mem_map]
    constructor
    · rintro ⟨h, -⟩
      obtain ⟨j, rfl⟩ := Option.ne_none_iff_exists'.mp h
      exact ⟨j, Finset.mem_univ j, rfl⟩
    · rintro ⟨j, -, rfl⟩
      exact ⟨Option.some_ne_none j, Finset.mem_univ _⟩
  rw [bigSep_univ_at Φ none, e, bigSep_map]
  rfl

theorem bigSep_arrays (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The cells of the four arrays that belong to chunk `k`. -/
def cellsOf (Φ : CI → sProp 𝕄) (k : Fin 2) : sProp 𝕄 :=
  iprop((each fun r => Φ (some (0, k, r))) ∗ (each fun r => Φ (some (1, k, r))) ∗ (each fun r => Φ (some (2, k, r))) ∗ each fun r => Φ (some (3, k, r)))

theorem cells_split (Φ : CI → sProp 𝕄) : bigSep Finset.univ Φ = iprop(Φ none ∗ cellsOf Φ 0 ∗ cellsOf Φ 1) := by
  unfold cellsOf
  rw [cells_option, bigSep_univ_prod, bigSep_congr (s := Finset.univ) (fun (a : Fin 4) _ => bigSep_univ_prod fun p : Fin 2 × Fin 15 => Φ (some (a, p))),
    bigSep_univ_comm, bigSep_fin_two, bigSep_arrays, bigSep_arrays]
  rfl

/-- Summed over the devices, what peer `r` of a device holds is what the device holds. -/
theorem around (Φ : Dev nD → Fin 15 → sProp 𝕄) : (bigSep Finset.univ fun c => each (Φ c)) = bigSep Finset.univ fun c => each fun r => Φ (peer c r) r := by
  rw [bigSep_univ_comm, bigSep_congr (s := Finset.univ) (fun (r : Fin 15) _ => bigSep_univ_equiv (shift r) fun c => Φ c r), bigSep_univ_comm]
  rfl

theorem around_rev (Φ : Dev nD → Fin 15 → sProp 𝕄) : (bigSep Finset.univ fun c => each (Φ c)) = bigSep Finset.univ fun c => each fun r => Φ (peer c r) r.rev := by
  rw [bigSep_congr (s := Finset.univ) (fun (c : Dev nD) _ => each_rev (Φ c)), around]

theorem each_mono {Φ Ψ : Fin 15 → sProp 𝕄} (h : ∀ r, Φ r ⊢ Ψ r) : each Φ ⊢ each Ψ := bigSep_mono fun r _ => h r

/-! ## The operand and the output, block by block -/

theorem mem_oR (q : Dev nD) (k : Fin 2) (i : S256x256.Idx) : i ∈ (oR q k).set ↔ 16 * q.val + 8 * k.val ≤ (i 0).val ∧ (i 0).val < 16 * q.val + 8 * k.val + 8 := by
  rw [Rect.mem_set_unit]
  constructor
  · exact fun h => h 0
  · intro h a
    match a with
    | 0 => exact h
    | 1 => exact ⟨Nat.zero_le _, Nat.lt_of_lt_of_eq (i 1).isLt (Nat.zero_add 256).symm⟩

theorem mem_xR (q : Dev nD) (k : Fin 2) (i : S1x256x256.Idx) : i ∈ (xR q k).set ↔ 16 * q.val + 8 * k.val ≤ (i 1).val ∧ (i 1).val < 16 * q.val + 8 * k.val + 8 := by
  rw [Rect.mem_set_unit]
  constructor
  · exact fun h => h 1
  · intro h a
    match a with
    | 0 => exact ⟨Nat.zero_le _, Nat.lt_of_lt_of_eq (i 0).isLt (Nat.zero_add 1).symm⟩
    | 1 => exact h
    | 2 => exact ⟨Nat.zero_le _, Nat.lt_of_lt_of_eq (i 2).isLt (Nat.zero_add 256).symm⟩

theorem rows_apart (q q' : Dev nD) (k k' : Fin 2) (h : (q, k) ≠ (q', k')) :
    16 * q.val + 8 * k.val + 8 ≤ 16 * q'.val + 8 * k'.val ∨ 16 * q'.val + 8 * k'.val + 8 ≤ 16 * q.val + 8 * k.val := by
  have hk := k.isLt
  have hk' := k'.isLt
  by_cases hq : q.val = q'.val
  · have hkk : k.val ≠ k'.val := fun e => h (by rw [Fin.ext hq, Fin.ext e])
    omega
  · omega

/-- The elements of each block of the operand and of the output. -/
def xSet (p : Dev nD × Fin 2) : Finset S1x256x256.Idx := (xR p.1 p.2).set
def oSet (p : Dev nD × Fin 2) : Finset S256x256.Idx := (oR p.1 p.2).set

theorem xSet_disj (p p' : Dev nD × Fin 2) (h : p ≠ p') : Disjoint (xSet p) (xSet p') := Rect.unit_disjoint 1 (rows_apart p.1 p'.1 p.2 p'.2 h)
theorem oSet_disj (p p' : Dev nD × Fin 2) (h : p ≠ p') : Disjoint (oSet p) (oSet p') := Rect.unit_disjoint 0 (rows_apart p.1 p'.1 p.2 p'.2 h)

theorem row_in (n : ℕ) : 16 * (n / 16) + 8 * (n % 16 / 8) ≤ n ∧ n < 16 * (n / 16) + 8 * (n % 16 / 8) + 8 := by omega

theorem xSet_cover : Finset.univ.biUnion xSet = Finset.univ :=
  Finset.eq_univ_of_forall fun i => Finset.mem_biUnion.mpr
    ⟨(⟨(i 1).val / 16, row_dev (i 1).isLt⟩, ⟨(i 1).val % 16 / 8, row_chunk _⟩), Finset.mem_univ _, (mem_xR _ _ i).mpr (row_in _)⟩
theorem oSet_cover : Finset.univ.biUnion oSet = Finset.univ :=
  Finset.eq_univ_of_forall fun i => Finset.mem_biUnion.mpr
    ⟨(⟨(i 0).val / 16, row_dev (i 0).isLt⟩, ⟨(i 0).val % 16 / 8, row_chunk _⟩), Finset.mem_univ _, (mem_oR _ _ i).mpr (row_in _)⟩

theorem xPts_set (c q : Dev nD) (k : Fin 2) : xPts m ρ c q k = (((c : Thread nD τ).loc cc0_stg0_0) ↦[xSet (q, k)]{fullShare} xstg m ρ c : sProp 𝕄) :=
  congrArg (fun S => ((((c : Thread nD τ).loc cc0_stg0_0)) ↦[S]{fullShare} xstg m ρ c : sProp 𝕄)) ((View.set_reshape _ _).trans (View.set_slice_whole _ _))
theorem oPts_set (c q : Dev nD) (k : Fin 2) (π : PosShare TreeShare) (f : Buf (Elt F) ((c : Thread nD τ).loc cc0_stg1_0)) :
    oPts c q k π f = (((c : Thread nD τ).loc cc0_stg1_0) ↦[oSet (q, k)]{π} f : sProp 𝕄) :=
  congrArg (fun S => ((((c : Thread nD τ).loc cc0_stg1_0)) ↦[S]{π} f : sProp 𝕄)) (View.set_slice_whole _ _)

/-- Something of every block is that of the device's own two blocks and of its peers'. -/
theorem blocks_split (c : Dev nD) (Φ : Dev nD × Fin 2 → sProp 𝕄) :
    bigSep Finset.univ Φ = iprop((Φ (c, 0) ∗ Φ (c, 1)) ∗ (each fun r => Φ (peer c r, 0)) ∗ each fun r => Φ (peer c r, 1)) := by
  rw [bigSep_univ_prod, devs_split c, bigSep_fin_two, ← each_sep]
  exact congrArg _ (bigSep_congr (s := Finset.univ) fun (r : Fin 15) _ => bigSep_fin_two fun k => Φ (peer c r, k))

theorem x_whole (c : Dev nD) : ((((c : Thread nD τ).loc cc0_stg0_0) ↦{fullShare} xstg m ρ c) : sProp 𝕄)
    = iprop((xPts m ρ c c 0 ∗ xPts m ρ c c 1) ∗ (each fun r => xPts m ρ c (peer c r) 0) ∗ each fun r => xPts m ρ c (peer c r) 1) := by
  simp only [xPts_set]
  exact (Ring.pointsTo_blocks (ℓ := (c : Thread nD τ).loc cc0_stg0_0) xSet xSet_disj xSet_cover (xstg m ρ c)).trans (blocks_split c _)

theorem o_whole (c : Dev nD) (f : Buf (Elt F) ((c : Thread nD τ).loc cc0_stg1_0)) : ((((c : Thread nD τ).loc cc0_stg1_0) ↦{fullShare} f) : sProp 𝕄)
    = iprop((oPts c c 0 fullShare f ∗ oPts c c 1 fullShare f) ∗ (each fun r => oPts c (peer c r) 0 fullShare f) ∗ each fun r => oPts c (peer c r) 1 fullShare f) := by
  simp only [oPts_set]
  exact (Ring.pointsTo_blocks (ℓ := (c : Thread nD τ).loc cc0_stg1_0) oSet oSet_disj oSet_cover f).trans (blocks_split c _)

/-! ## The receive buffer, slot by slot -/

def slotSet (p : Fin 2 × Fin 15) : Finset S16x16x256.Idx := (slotR p.1 p.2).set

theorem slotSet_disj (p p' : Fin 2 × Fin 15) (h : p ≠ p') : Disjoint (slotSet p) (slotSet p') := by
  by_cases hr : p.2.val = p'.2.val
  · have hk : p.1.val ≠ p'.1.val := fun e => h (Prod.ext (Fin.ext e) (Fin.ext hr))
    exact Rect.unit_disjoint 1 (show 8 * p.1.val + 8 ≤ 8 * p'.1.val ∨ 8 * p'.1.val + 8 ≤ 8 * p.1.val by omega)
  · exact Rect.unit_disjoint 0 (show p.2.val + 1 + 1 ≤ p'.2.val + 1 ∨ p'.2.val + 1 + 1 ≤ p.2.val + 1 by omega)

theorem slotPts_set (c : Dev nD) (k : Fin 2) (r : Fin 15) (f : Buf (Elt F) ((c : Thread nD τ).loc cc0_scratch0)) :
    slotPts c k r f = (((c : Thread nD τ).loc cc0_scratch0) ↦[slotSet (k, r)]{fullShare} f : sProp 𝕄) :=
  congrArg (fun S => ((((c : Thread nD τ).loc cc0_scratch0)) ↦[S]{fullShare} f : sProp 𝕄)) ((View.set_reshape _ _).trans (View.set_slice_whole _ _))
theorem slotAny_set (c : Dev nD) (k : Fin 2) (r : Fin 15) :
    slotAny (F := F) c k r = iprop(∃ f : Buf (Elt F) ((c : Thread nD τ).loc cc0_scratch0), ((c : Thread nD τ).loc cc0_scratch0) ↦[slotSet (k, r)]{fullShare} f) :=
  congrArg (fun Φ : Buf (Elt F) ((c : Thread nD τ).loc cc0_scratch0) → sProp 𝕄 => iprop(∃ f, Φ f)) (funext fun f => slotPts_set c k r f)

/-- The slots that are used. -/
def slotsS : Finset S16x16x256.Idx := Finset.univ.biUnion slotSet

/-- The part of the receive buffer that no transfer writes. -/
def spare (c : Dev nD) (f : Buf (Elt F) ((c : Thread nD τ).loc cc0_scratch0)) : sProp 𝕄 :=
  ((c : Thread nD τ).loc cc0_scratch0) ↦[Finset.univ \ slotsS]{fullShare} f

def scrAny (c : Dev nD) : sProp 𝕄 := iprop(∃ f : Buf (Elt F) ((c : Thread nD τ).loc cc0_scratch0), ((c : Thread nD τ).loc cc0_scratch0) ↦{fullShare} f)

/-- Every slot of device `c`, at some contents. -/
def slotsAny (c : Dev nD) : sProp 𝕄 := iprop((each fun r => slotAny (F := F) c 0 r) ∗ each fun r => slotAny (F := F) c 1 r)

theorem slots_eq (Φ : Fin 2 × Fin 15 → sProp 𝕄) : bigSep Finset.univ Φ = iprop((each fun r => Φ (0, r)) ∗ each fun r => Φ (1, r)) := by
  rw [bigSep_univ_prod, bigSep_fin_two]
  rfl

theorem slotsAny_eq (c : Dev nD) : slotsAny (F := F) c
    = bigSep Finset.univ fun p => iprop(∃ f : Buf (Elt F) ((c : Thread nD τ).loc cc0_scratch0), ((c : Thread nD τ).loc cc0_scratch0) ↦[slotSet p]{fullShare} f) := by
  have h : ∀ k : Fin 2, (each fun r => slotAny (F := F) c k r)
      = each fun r => iprop(∃ f : Buf (Elt F) ((c : Thread nD τ).loc cc0_scratch0), ((c : Thread nD τ).loc cc0_scratch0) ↦[slotSet (k, r)]{fullShare} f) :=
    fun k => bigSep_congr (s := Finset.univ) fun r _ => slotAny_set c k r
  unfold slotsAny
  rw [h 0, h 1]
  exact (slots_eq fun p : Fin 2 × Fin 15 => iprop(∃ f : Buf (Elt F) ((c : Thread nD τ).loc cc0_scratch0), ((c : Thread nD τ).loc cc0_scratch0) ↦[slotSet p]{fullShare} f)).symm

theorem any_of (ℓ : Loc nD τ sig) (S : Finset (Idx ℓ)) (f : Buf (Elt F) ℓ) : ((ℓ ↦[S]{fullShare} f) : sProp 𝕄) ⊢ iprop(∃ f : Buf (Elt F) ℓ, ℓ ↦[S]{fullShare} f) := by
  iintro H
  iexists f
  iexact H

theorem scr_split (c : Dev nD) : scrAny (F := F) c ⊢ iprop((∃ f, spare (F := F) c f) ∗ slotsAny (F := F) c) := by
  rw [slotsAny_eq]
  unfold scrAny spare
  iintro ⟨%f, H⟩
  ihave H' := (pointsTo_split_subset (Finset.subset_univ slotsS)).1 $$ H
  icases H' with ⟨Hs, Hr⟩
  isplitl [Hr]
  · iexists f; iexact Hr
  · ihave Hb := (Entails.of_eq (Ring.pointsTo_sub_blocks (ℓ := (c : Thread nD τ).loc cc0_scratch0) slotSet slotSet_disj slotsS rfl f)) $$ Hs
    have hm : (bigSep Finset.univ fun p => (((c : Thread nD τ).loc cc0_scratch0) ↦[slotSet p]{fullShare} f : sProp 𝕄))
        ⊢ bigSep Finset.univ fun p => iprop(∃ f : Buf (Elt F) ((c : Thread nD τ).loc cc0_scratch0), ((c : Thread nD τ).loc cc0_scratch0) ↦[slotSet p]{fullShare} f) :=
      bigSep_mono fun p _ => any_of ((c : Thread nD τ).loc cc0_scratch0) (slotSet p) f
    iapply hm
    iexact Hb

theorem scr_join (c : Dev nD) : iprop((∃ f, spare (F := F) c f) ∗ slotsAny (F := F) c) ⊢ scrAny (F := F) c := by
  rw [slotsAny_eq]
  unfold scrAny spare
  iintro ⟨⟨%f, Hr⟩, Hs⟩
  ihave Hj := (Ring.pointsTo_sub_blocks_join_exists (ℓ := (c : Thread nD τ).loc cc0_scratch0) (q := fullShare) slotSet slotSet_disj slotsS rfl f) $$ Hs
  icases Hj with ⟨%g, Hj⟩
  iexists (slotsS.piecewise g f)
  iapply (pointsTo_join_subset (Finset.subset_univ slotsS))
  isplitl [Hj] <;> iassumption

/-! ## What the body takes and gives, out of whole buffers -/

theorem oAny_of (c q : Dev nD) (k : Fin 2) (f : Buf (Elt F) ((c : Thread nD τ).loc cc0_stg1_0)) : oPts c q k fullShare f ⊢ oAny (F := F) c q k := by
  unfold oAny
  iintro H
  iexists f
  iexact H

/-- The receive buffer and the output, as the signals lend them. -/
theorem lend_all (c : Dev nD) (f : Buf (Elt F) ((c : Thread nD τ).loc cc0_stg1_0)) :
    iprop(slotsAny (F := F) c ∗ (((c : Thread nD τ).loc cc0_stg1_0) ↦{fullShare} f))
      ⊢ iprop((each fun r => lend (F := F) c r) ∗ oAny (F := F) c c 0 ∗ oAny (F := F) c c 1) := by
  have e : (each fun r => lend (F := F) c r) = iprop(((each fun r => slotAny (F := F) c 0 r) ∗ each fun r => oAny (F := F) c (peer c r) 0)
      ∗ ((each fun r => slotAny (F := F) c 1 r) ∗ each fun r => oAny (F := F) c (peer c r) 1)) := by
    rw [← each_sep, ← each_sep, ← each_sep]
    exact bigSep_congr (s := Finset.univ) fun r _ => by unfold lend; exact bigSep_fin_two _
  rw [e, o_whole]
  unfold slotsAny
  iintro ⟨⟨Hs0, Hs1⟩, ⟨Ho0, Ho1⟩, Hp0, Hp1⟩
  isplitl [Hs0 Hs1 Hp0 Hp1]
  · isplitl [Hs0 Hp0]
    · isplitl [Hs0]; · iexact Hs0
      iapply (each_mono fun r => oAny_of c (peer c r) 0 f); iexact Hp0
    · isplitl [Hs1]; · iexact Hs1
      iapply (each_mono fun r => oAny_of c (peer c r) 1 f); iexact Hp1
  · isplitl [Ho0]
    · iapply (oAny_of c c 0 f); iexact Ho0
    · iapply (oAny_of c c 1 f); iexact Ho1

/-- The tokens device `c` pays with. -/
def payToks (c : Dev nD) : sProp 𝕄 :=
  iprop((each fun r => tok (F := F) (peer c r, none) r)
    ∗ (((each fun r => tok (F := F) (c, some (0, 0, r)) 0) ∗ (each fun r => tok (F := F) (peer c r, some (1, 0, r.rev)) 0)
        ∗ (each fun r => tok (F := F) (c, some (2, 0, r)) 0) ∗ each fun r => tok (F := F) (peer c r, some (3, 0, r.rev)) 0)
      ∗ ((each fun r => tok (F := F) (c, some (0, 1, r)) 0) ∗ (each fun r => tok (F := F) (peer c r, some (1, 1, r.rev)) 0)
        ∗ (each fun r => tok (F := F) (c, some (2, 1, r)) 0) ∗ each fun r => tok (F := F) (peer c r, some (3, 1, r.rev)) 0)))

/-- The credit of each cell at launch: what the other devices owe it. -/
def due : CI → ℕ
  | none => 15
  | some (a, _, _) => (![0, N, 0, N] : Fin 4 → ℕ) a

/-- What device `c` holds besides its buffers. -/
def linear (c : Dev nD) : sProp 𝕄 :=
  iprop((bigSep Finset.univ fun i => crd (F := F) (c, i) (due i)) ∗ (bigSep Finset.univ fun i => at0 (F := F) (c, i)) ∗ payToks (F := F) c)

theorem body_entry (c : Dev nD) (f : Buf (Elt F) ((c : Thread nD τ).loc cc0_stg1_0)) :
    iprop(linear (F := F) c ∗ slotsAny (F := F) c ∗ (((c : Thread nD τ).loc cc0_stg1_0) ↦{fullShare} f) ∗ (((c : Thread nD τ).loc cc0_stg0_0) ↦{fullShare} xstg m ρ c))
      ⊢ bodyIn m ρ c := by
  unfold linear payToks bodyIn chunkIn
  rw [cells_split, cells_split, x_whole, each_sep]
  unfold cellsOf
  iintro ⟨⟨⟨Hcb, ⟨-, Hc10, -, Hc30⟩, -, Hc11, -, Hc31⟩, ⟨Hab, ⟨Ha00, Ha10, Ha20, Ha30⟩, Ha01, Ha11, Ha21, Ha31⟩, Htb, Ht0, Ht1⟩, Hs, Ho, ⟨Hx0, Hx1⟩, Hp0, Hp1⟩
  ihave Hl := (lend_all c f) $$ [Hs Ho]
  · isplitl [Hs] <;> iassumption
  icases Hl with ⟨Hl, Ho0, Ho1⟩
  isplitl [Hcb]; · iexact Hcb
  isplitl [Hab]; · iexact Hab
  isplitl [Htb Hl]
  · isplitl [Htb] <;> iassumption
  isplitl [Hp0 Hx0 Ho0 Hc10 Ha10 Hc30 Ha30 Ha00 Ha20 Ht0]
  · isplitl [Hp0 Hx0 Ho0]
    · isplitl [Hp0]; · iexact Hp0
      isplitl [Hx0] <;> iassumption
    isplitl [Hc10 Ha10 Hc30 Ha30]
    · isplitl [Hc10 Ha10]
      · iapply (Entails.of_eq (each_sep _ _).symm)
        isplitl [Hc10]; · iexact Hc10
        iexact Ha10
      · iapply (Entails.of_eq (each_sep _ _).symm)
        isplitl [Hc30]; · iexact Hc30
        iexact Ha30
    isplitl [Ha00 Ha20]
    · isplitl [Ha00] <;> iassumption
    iexact Ht0
  · isplitl [Hp1 Hx1 Ho1]
    · isplitl [Hp1]; · iexact Hp1
      isplitl [Hx1] <;> iassumption
    isplitl [Hc11 Ha11 Hc31 Ha31]
    · isplitl [Hc11 Ha11]
      · iapply (Entails.of_eq (each_sep _ _).symm)
        isplitl [Hc11]; · iexact Hc11
        iexact Ha11
      · iapply (Entails.of_eq (each_sep _ _).symm)
        isplitl [Hc31]; · iexact Hc31
        iexact Ha31
    isplitl [Ha01 Ha21]
    · isplitl [Ha01] <;> iassumption
    iexact Ht1

theorem done_each (c : Dev nD) (a : Fin 4) (k : Fin 2) : each (done m ρ c a k) = iprop((each fun r => at1 (F := F) (c, some (a, k, r))) ∗ each fun r => xferPay m ρ c a k r) :=
  each_sep _ _

theorem slotGot_any (c : Dev nD) (k : Fin 2) (r : Fin 15) : slotGot m ρ c k r ⊢ slotAny (F := F) c k r := by
  unfold slotGot slotAny
  iintro ⟨%f, -, H⟩
  iexists f
  iexact H

/-- What chunk `k` leaves, block by block. -/
def chunkBlocks (c : Dev nD) (k : Fin 2) : sProp 𝕄 :=
  iprop((xPts m ρ c c k ∗ each fun r => xPts m ρ c (peer c r) k) ∗ (oPts c c k fullShare (outC m ρ) ∗ each fun r => oPts c (peer c r) k fullShare (outC m ρ))
    ∗ each fun r => slotAny (F := F) c k r)

theorem chunk_exit (c : Dev nD) (k : Fin 2) : chunkEnd m ρ c k ⊢ iprop(cellsOf (fun i => at1 (F := F) (c, i)) k ∗ chunkBlocks m ρ c k) := by
  unfold chunkEnd cellsOf chunkBlocks
  have e : (each fun r => iprop(done m ρ c 0 k r ∗ done m ρ c 2 k r)) = iprop(((each fun r => at1 (F := F) (c, some (0, k, r))) ∗ each fun r => xferPay m ρ c 0 k r)
      ∗ ((each fun r => at1 (F := F) (c, some (2, k, r))) ∗ each fun r => xferPay m ρ c 2 k r)) := by
    rw [← done_each, ← done_each]
    exact each_sep _ _
  rw [e, done_each, done_each]
  iintro ⟨⟨Hx, Ho⟩, ⟨Ha1, Hs⟩, ⟨Ha3, Ho3⟩, ⟨Ha0, Hx0⟩, Ha2, Ho2⟩
  isplitl [Ha0 Ha1 Ha2 Ha3]
  · isplitl [Ha0]; · iexact Ha0
    isplitl [Ha1]; · iexact Ha1
    isplitl [Ha2] <;> iassumption
  isplitl [Hx Hx0]
  · isplitl [Hx]; · iexact Hx
    iexact Hx0
  isplitl [Ho Ho2 Ho3]
  · isplitl [Ho Ho2]
    · iapply (oPts_unshare c c k (outC m ρ))
      isplitl [Ho]; · iexact Ho
      iexact Ho2
    · iexact Ho3
  · iapply (each_mono fun r => slotGot_any m ρ c k r); iexact Hs

theorem body_exit (c : Dev nD) :
    bodyOut m ρ c ⊢ iprop((bigSep Finset.univ fun i => at1 (F := F) (c, i)) ∗ slotsAny (F := F) c
      ∗ (((c : Thread nD τ).loc cc0_stg1_0) ↦{fullShare} outC m ρ) ∗ (((c : Thread nD τ).loc cc0_stg0_0) ↦{fullShare} xstg m ρ c)) := by
  unfold bodyOut slotsAny
  rw [cells_split, x_whole, o_whole]
  iintro ⟨Hab, H0, H1⟩
  ihave H0' := (chunk_exit m ρ c 0) $$ H0
  ihave H1' := (chunk_exit m ρ c 1) $$ H1
  unfold chunkBlocks
  icases H0' with ⟨Ha0, ⟨Hx0, Hp0⟩, ⟨Ho0, Hq0⟩, Hs0⟩
  icases H1' with ⟨Ha1, ⟨Hx1, Hp1⟩, ⟨Ho1, Hq1⟩, Hs1⟩
  isplitl [Hab Ha0 Ha1]
  · isplitl [Hab]; · iexact Hab
    isplitl [Ha0] <;> iassumption
  isplitl [Hs0 Hs1]
  · isplitl [Hs0] <;> iassumption
  isplitl [Ho0 Ho1 Hq0 Hq1]
  · isplitl [Ho0 Ho1]
    · isplitl [Ho0] <;> iassumption
    · isplitl [Hq0] <;> iassumption
  · isplitl [Hx0 Hx1]
    · isplitl [Hx0] <;> iassumption
    · isplitl [Hp0] <;> iassumption

/-- Every cell of a device, its round over, closes. -/
theorem cells_close (K : Dev nD × CI → ℕ) (c : Dev nD) :
    iprop(ctx m ρ K ∗ bigSep Finset.univ fun i => at1 (F := F) (c, i)) ⊢ |={Set.univ}=> bigSep Finset.univ fun i => semVal (kcell (c, i)) 0 := by
  have h : ∀ i ∈ (Finset.univ : Finset CI), iprop(ctx m ρ K ∗ at1 (F := F) (c, i)) ⊢ |={Set.univ}=> semVal (kcell (c, i)) 0 := by
    intro i _
    iintro ⟨#Hc, Hat⟩
    ihave Hr := (ctx_at m ρ K (c, i)) $$ Hc
    icases Hr with ⟨#HI, -⟩
    iapply (Rounds.cell_close ER (Rd m ρ) (Set.mem_univ (K (c, i))) (fun h => h) (R := 0 + 1) (duties_later m ρ (kcell (c, i))))
    isplitr; · iexact HI
    iexact Hat
  exact (bigSep_with_persistent h).trans (bigSep_fupd _ _)

end Cert.KernelIdeal

end
-- ==== Proof.Meet.lean ====
/-
  The body met at the one grid point: from the staged operand to the staged result.
-/
module

public import proofs.«01_k».proof.Proof.Whole

@[expose] public section

set_option maxRecDepth 65536

noncomputable section

namespace Cert.KernelIdeal

open Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body at the grid point -/

/-- What device `c` starts with, apart from its buffers. -/
def start (c : Dev nD) : sProp 𝕄 := iprop((∃ K, records m ρ K) ∗ levAts L lv ∗ linear (F := F) c)

def Φ₀ (c : Dev nD) : sProp 𝕄 := iprop(start m ρ c ∗ scrAny (F := F) c)
def Φ₁ (c : Dev nD) : sProp 𝕄 := iprop((bigSep Finset.univ fun i => semVal (kcell (c, i)) 0) ∗ scrAny (F := F) c)

def O₀ (c : Dev nD) : CellTallies nD τ sig Unit := owe (debts c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outC m ρ
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

theorem fetch_x (t : Fin cfg0.N) : (cfg0.win (0 : Fin 2)).fetch t = true := by rw [fin_N0 t]; rfl

def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ c ∗ (dats m ρ 0 c).owesAt () t0_0.succ ∗ stg c cc0_stg0_0 (xstg m ρ c) ∗ stg c cc0_stg1_0 (outC m ρ))

theorem owesAt_start (c : Dev nD) : (dats m ρ 0 c).owesAt () t0_0.castSucc ⊢ owing (F := F) c (debts c) := by
  unfold Dat.owesAt Pipeline.owesWithin owing
  iintro ⟨%W, -, HO⟩
  iexists W
  iexact HO

theorem owesAt_end (c : Dev nD) : owing (F := F) c [] ⊢ (dats m ρ 0 c).owesAt () t0_0.succ := by
  unfold Dat.owesAt Pipeline.owesWithin owing
  iintro ⟨%W, HO⟩
  iexists W
  isplitr; · ipureintro; exact fun _ _ => Or.inl trivial
  iexact HO

theorem sound_body (c : Dev nD) : bodyPre m ρ c ⊢ Runs c (bodyAt c) fun _ => bodyPost m ρ c := by
  unfold bodyPre Φ₀ start
  iintro ⟨⟨⟨⟨%K, #Hr⟩, #Hlev, Hlin⟩, Hscr⟩, Ho, ⟨%d0, %g0, %hg0, Hx⟩, ⟨%d1, %g1, %hg1, Hout⟩⟩
  have hx : g0 = xstg m ρ c := by rw [hg0]; unfold Dat.before; rw [if_pos (fetch_x t0_0)]; rfl
  subst hx
  ihave Hs := (scr_split c) $$ Hscr
  icases Hs with ⟨Hspare, Hslots⟩
  iapply (run_body m ρ K c)
  isplitr
  · unfold ctx; isplitr <;> iassumption
  isplitl [Ho]
  · iapply (owesAt_start m ρ c); iexact Ho
  isplitl [Hlin Hslots Hx Hout]
  · iapply (body_entry m ρ c g1)
    isplitl [Hlin]; · iexact Hlin
    isplitl [Hslots]; · iexact Hslots
    isplitl [Hout] <;> iassumption
  iintro ⟨HO, Hb⟩
  ihave Hb' := (body_exit m ρ c) $$ Hb
  icases Hb' with ⟨Hat, Hslots, Hout, Hx⟩
  imod (cells_close m ρ K c) $$ [Hat] with Hz
  · isplitr
    · unfold ctx; isplitr <;> iassumption
    · iexact Hat
  imodintro
  unfold bodyPost Φ₁
  isplitl [Hz Hspare Hslots]
  · isplitl [Hz]; · iexact Hz
    iapply (scr_join c)
    isplitl [Hspare] <;> iassumption
  isplitl [HO]
  · iapply (owesAt_end m ρ c); iexact HO
  isplitl [Hx]
  · iexists (xstg m ρ c); isplitr; · (ipureintro; rfl)
    iexact Hx
  iexists (outC m ρ); isplitr; · (ipureintro; rfl)
  iexact Hout

theorem runs_device (c : Dev nD) (Q : PUnit → sProp 𝕄) : Runs c (bodyAt c) Q ⊢ Runs c (Prog.lift .deviceId >>= fun c => bodyAt c) Q := by
  unfold Runs
  simp only [Prog.lift, Prog.bind_op, Prog.bind_ret, wp_deviceId]
  exact BI.Entails.refl _

theorem body_obligation (c : Dev nD) : BodyObligation (dats (F := F) m ρ 0 c) (defs₀ (F := F)) 𝒱₀ () Set.univ := fun t => by
  rw [fin_N0 t]
  rw [bigSep_W0, bigSep_W0]
  simp only [owns_stg]
  show bodyPre m ρ c ⊢ Runs c
    (cc0_body (F := F) xM (Memref.isWhole_whole _) oM (Memref.isWhole_whole _) rM (Memref.isWhole_whole _) cc0_scratch1 cc0_scratch2 cc0_scratch3 cc0_scratch4)
    (fun _ => bodyPost m ρ c)
  rw [body_eq]
  exact (sound_body m ρ c).trans (runs_device c _)

end Cert.KernelIdeal

end
-- ==== Proof.Launch.lean ====
/-
  The launch: the cells and tokens minted and dealt out, what each cell is owed, the run of the whole program.
-/
module

public import proofs.«01_k».proof.Proof.Meet
public import Idealize.ShloMosaic.Lib.Pipeline.CollectiveSegs

@[expose] public section

set_option maxRecDepth 65536

noncomputable section

namespace Cert.KernelIdeal

open Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each cell is owed -/

theorem owe_at (l : List (Dev nD × CI)) (x : Dev nD × CI) : owe l (kcell x) () = wt x.2 * l.count x := by
  induction l with
  | nil => rfl
  | cons y l ih =>
    show owe l (kcell x) () + tallyAt (kcell y) () (wt y.2) (kcell x) () = _
    rw [ih, tallyAt_apply, List.count_cons, Nat.mul_add]
    by_cases h : y = x
    · subst h
      rw [if_pos ⟨rfl, rfl⟩, if_pos (beq_self_eq_true y), Nat.mul_one]
    · rw [if_neg (fun e => h (kcell_inj e.1).symm), if_neg (fun e => h (eq_of_beq e)), Nat.mul_zero]

theorem sum_one (j i : CI) (r : Fin 15) (c : Dev nD) : ∑ d : Dev nD, (if (peer d r, j) == (c, i) then 1 else 0) = if j == i then 1 else 0 := by
  refine (Equiv.sum_comp (shift r) fun e : Dev nD => if (e, j) == (c, i) then 1 else 0).trans ?_
  by_cases h : j = i
  · rw [if_pos (beq_iff_eq.mpr h), Finset.sum_eq_single c]
    · exact if_pos (beq_iff_eq.mpr (by rw [h]))
    · intro e _ he
      exact if_neg fun hb => he (congrArg Prod.fst (eq_of_beq hb))
    · exact fun hc => absurd (Finset.mem_univ c) hc
  · rw [if_neg (fun hb => h (eq_of_beq hb))]
    exact Finset.sum_eq_zero fun e _ => if_neg fun hb => h (congrArg Prod.snd (eq_of_beq hb))

/-- Over all devices, the payments along a list of peers reach each device once per entry. -/
theorem sum_count (g : Fin 15 → CI) (l : List (Fin 15)) (c : Dev nD) (i : CI) :
    ∑ d : Dev nD, (l.map fun r => (peer d r, g r)).count (c, i) = (l.map g).count i := by
  induction l with
  | nil => simp only [List.map_nil, List.count_nil, Finset.sum_const_zero]
  | cons r l ih =>
    simp only [List.map_cons, List.count_cons, Finset.sum_add_distrib, ih]
    rw [sum_one]

/-- How many payments a cell receives from other devices. -/
def payers : CI → ℕ
  | none => 15
  | some (a, _, _) => (![0, 1, 0, 1] : Fin 4 → ℕ) a

theorem payers_eq : ∀ i : CI, (asc.map fun _ => (none : CI)).count i + ((far.map fun r : Fin 15 => (some (1, 0, r.rev) : CI)).count i
    + ((far.map fun r : Fin 15 => (some (1, 1, r.rev) : CI)).count i + ((far.map fun r : Fin 15 => (some (3, 0, r.rev) : CI)).count i
    + ((far.map fun r : Fin 15 => (some (3, 1, r.rev) : CI)).count i + 0)))) = payers i := by decide +kernel

theorem due_eq (i : CI) : wt i * payers i = due i := by
  match i with
  | none => rfl
  | some (0, _, _) => exact Nat.mul_zero _
  | some (1, _, _) => exact Nat.mul_one _
  | some (2, _, _) => exact Nat.mul_zero _
  | some (3, _, _) => exact Nat.mul_one _

theorem sum_owed (c : Dev nD) (i : CI) : ∑ d : Dev nD, O₀ d (kcell (c, i)) () = due i := by
  unfold O₀ debts
  simp only [owe_at, List.count_append, ← Finset.mul_sum, Finset.sum_add_distrib, sum_count, List.count_nil, Finset.sum_const_zero]
  rw [payers_eq, due_eq]

theorem launch_cell (c : Dev nD) (i : CI) :
    tallyOn (kcell (c, i)) (launchCredit (Pipeline.owing O₀) 0 (kcell (c, i))) = (tallyAt (kcell (c, i)) () (due i) : CellTallies nD τ sig Unit) := by
  unfold tallyAt
  refine congrArg _ (Finsupp.ext fun u => ?_)
  cases u
  rw [Pipeline.launchCredit_owing, Finsupp.single_eq_same, sum_owed]

theorem creds (c : Dev nD) : (Pipeline.launchCred O₀ c : sProp 𝕄) ⊢ bigSep Finset.univ fun i => crd (F := F) (c, i) (due i) := by
  unfold Pipeline.launchCred
  refine (bigSep_subset (Finset.subset_univ (Finset.univ.image csem))).trans ?_
  rw [bigSep_image_of_injOn (fun i _ j _ h => csem_inj i j h)]
  exact Entails.of_eq (bigSep_congr fun i _ => congrArg cred (launch_cell c i))

/-! ## The cells and tokens, minted and dealt out -/

abbrev osem (j : Fin 4 × Fin 2 × Fin 15) : SemLoc sig := csem (some j)

theorem ownSemFacts : Pipeline.OwnSemFacts cfg0.spec osem := by decide +kernel

theorem share_eq (c : Dev nD) (w : Fin cfg0.W) : (dats m ρ 0 c).share w = fullShare := by unfold Dat.share; split <;> rfl

def allCells : Finset (GSem nD τ sig) := Finset.univ.map ⟨kcell, kcell_inj⟩

/-- A token of every duty number at every cell. -/
abbrev tokOf (p : (Dev nD × CI) × Fin 15) : GSem nD τ sig × ℕ × Fin 15 := (kcell p.1, 0, p.2)
theorem tokOf_inj : Function.Injective tokOf := fun p p' h =>
  Prod.ext (kcell_inj (congrArg Prod.fst h)) (congrArg (fun x : GSem nD τ sig × ℕ × Fin 15 => x.2.2) h)
def allToks : Finset (GSem nD τ sig × ℕ × Fin 15) := Finset.univ.map ⟨tokOf, tokOf_inj⟩

def u₀ : UU := (initOf (Pipeline.cells cfgs cellOf_inj) (Pipeline.launchToks cfgs cellOf_inj), initOf allCells allToks)

/-- The tokens of device `c`'s own cells. -/
def toks (c : Dev nD) : sProp 𝕄 := bigSep Finset.univ fun i : CI => each fun d => tok (F := F) (c, i) d

/-- What the launch deals device `c`. -/
def G (c : Dev nD) : sProp 𝕄 :=
  iprop((bigSep Finset.univ fun i : CI => roundState ER (Rd m ρ) (kcell (c, i)) 0)
    ∗ (bigSep Finset.univ fun i : CI => reached ER (kcell (c, i)) 0) ∗ (bigSep Finset.univ fun i : CI => at0 (F := F) (c, i)) ∗ toks (F := F) c)

/-- What it holds once the cells are shared and the tokens have gone to those who pay. -/
def G' (c : Dev nD) : sProp 𝕄 :=
  iprop((∃ K, records m ρ K) ∗ (bigSep Finset.univ fun i : CI => at0 (F := F) (c, i)) ∗ payToks (F := F) c)

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun i : CI => Φ (kcell (c, i)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks toks
    rw [bigSep_map, bigSep_univ_prod, bigSep_univ_prod]; rfl
  have hG : bigSep Finset.univ (G m ρ) = iprop((bigSep Finset.univ fun c : Dev nD => bigSep Finset.univ fun i : CI => roundState ER (Rd m ρ) (kcell (c, i)) 0)
      ∗ (bigSep Finset.univ fun c : Dev nD => bigSep Finset.univ fun i : CI => reached ER (kcell (c, i)) 0)
      ∗ (bigSep Finset.univ fun c : Dev nD => bigSep Finset.univ fun i : CI => at0 (F := F) (c, i)) ∗ bigSep Finset.univ fun c : Dev nD => toks (F := F) c) := by
    unfold G
    rw [bigSep_sep', bigSep_sep', bigSep_sep']
  rw [hG, ← hT, ← hX fun g => roundState ER (Rd m ρ) g 0, ← hX fun g => reached ER g 0, ← hX fun g => atPos ER g 0 ∅ 0]
  exact Rounds.fund ER (Rd m ρ) allCells allToks

/-- The barrier semaphore is the launch's one unscoped semaphore. -/
theorem unscopedSems0_eq (c : Dev nD) : (unscopedSems0 c : sProp 𝕄) = semVal (kcell (c, none)) 0 := by
  unfold unscopedSems0; rw [bigSep_eq_bigSepL_of_eq [SemLoc.reg barS] (by decide) (by decide)]; rfl

theorem sems_eq (c : Dev nD) : (bigSep Finset.univ fun i : CI => (semVal (kcell (c, i)) 0 : sProp 𝕄))
    = iprop(unscopedSems0 c ∗ Pipeline.ownSems0 (Ix := Unit) (Name := ℕ) (U := UU) (Lvl := ℕ) (Val := Elt F) (τ := τ) osem c) := by
  rw [unscopedSems0_eq, cells_option]
  rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : CI => iprop((∃ κ : ℕ, cellInv ER (Rd m ρ) κ (kcell (c, i))) ∗ reached ER (kcell (c, i)) 0))
          ∗ (bigSep Finset.univ fun i : CI => at0 (F := F) (c, i)) ∗ toks (F := F) c) := by
  have alloc : iprop((bigSep Finset.univ fun i : CI => semVal (kcell (c, i)) 0) ∗ bigSep Finset.univ fun i : CI => roundState ER (Rd m ρ) (kcell (c, i)) 0)
      ⊢ (|={Set.univ}=> bigSep Finset.univ fun i : CI => iprop(∃ κ : ℕ, cellInv ER (Rd m ρ) κ (kcell (c, i))) : sProp 𝕄) := by
    rw [← bigSep_sep']
    exact (bigSep_mono fun i _ => (Rounds.body_intro ER (Rd m ρ) (kcell (c, i))).trans inv_alloc).trans (bigSep_fupd _ _)
  rw [bigSep_sep']
  unfold G
  iintro ⟨Hos, Hus, Hst, Hr, Hat, Htok⟩
  imod (alloc) $$ [Hos Hus Hst] with Hinv
  · rw [sems_eq]
    isplitl [Hos Hus]
    · isplitl [Hus] <;> iassumption
    · iexact Hst
  imodintro
  isplitl [Hinv Hr]
  · isplitl [Hinv] <;> iassumption
  isplitl [Hat] <;> iassumption

/-- Of the tokens of its own cells a device keeps those that name a duty. -/
def ownToks (c : Dev nD) : sProp 𝕄 :=
  iprop((each fun r => tok (F := F) (c, none) r) ∗ cellsOf (fun i => tok (F := F) (c, i) 0) 0 ∗ cellsOf (fun i => tok (F := F) (c, i) 0) 1)

theorem toks_own (c : Dev nD) : toks (F := F) c ⊢ ownToks c := by
  have one : ∀ (a : Fin 4) (k : Fin 2), (each fun r => each fun d => tok (F := F) (c, some (a, k, r)) d) ⊢ each fun r => tok (F := F) (c, some (a, k, r)) 0 :=
    fun a k => each_mono fun r => bigSep_elim (Finset.mem_univ 0)
  have chunk : ∀ k : Fin 2, cellsOf (fun i => each fun d => tok (F := F) (c, i) d) k ⊢ cellsOf (fun i => tok (F := F) (c, i) 0) k := by
    intro k
    unfold cellsOf
    iintro ⟨H0, H1, H2, H3⟩
    isplitl [H0]; · iapply (one 0 k); iexact H0
    isplitl [H1]; · iapply (one 1 k); iexact H1
    isplitl [H2]; · iapply (one 2 k); iexact H2
    iapply (one 3 k); iexact H3
  unfold toks ownToks
  rw [cells_split]
  iintro ⟨Hb, H0, H1⟩
  isplitl [Hb]; · iexact Hb
  isplitl [H0]; · iapply (chunk 0); iexact H0
  iapply (chunk 1); iexact H1

/-- The tokens go to those who pay: a barrier's token `r` to the device whose peer `r` has the barrier, a receive cell's
    token to the device that sends to it. -/
theorem toks_around : (bigSep Finset.univ fun c : Dev nD => ownToks (F := F) c) = bigSep Finset.univ fun c : Dev nD => payToks (F := F) c := by
  have hb := around (F := F) fun c r => tok (F := F) (c, none) r
  have hr := fun (a : Fin 4) (k : Fin 2) => around_rev (F := F) fun c r => tok (F := F) (c, some (a, k, r)) 0
  unfold ownToks payToks cellsOf
  simp only [bigSep_sep', hb, hr 1, hr 3]

theorem regroup :
    (bigSep Finset.univ fun c : Dev nD => iprop((bigSep Finset.univ fun i : CI => iprop((∃ κ : ℕ, cellInv ER (Rd m ρ) κ (kcell (c, i))) ∗ reached ER (kcell (c, i)) 0))
          ∗ (bigSep Finset.univ fun i : CI => at0 (F := F) (c, i)) ∗ toks (F := F) c) : sProp 𝕄)
      ⊢ bigSep Finset.univ (G' m ρ) := by
  have hinv : (bigSep Finset.univ fun x : Dev nD × CI => iprop((∃ κ : ℕ, cellInv ER (Rd m ρ) κ (kcell x)) ∗ reached ER (kcell x) 0))
      ⊢ (iprop(∃ K, records m ρ K) : sProp 𝕄) := by
    rw [bigSep_sep']
    iintro ⟨HI, Hr⟩
    ihave HK := (BI.bigSep_exists_pi Finset.univ (fun (x : Dev nD × CI) (κ : ℕ) => (cellInv ER (Rd m ρ) κ (kcell x) : sProp 𝕄))) $$ HI
    icases HK with ⟨%K, HI⟩
    iexists K
    unfold records
    iapply (Entails.of_eq (bigSep_sep' Finset.univ (fun x : Dev nD × CI => (cellInv ER (Rd m ρ) (K x) (kcell x) : sProp 𝕄)) (fun x => reached ER (kcell x) 0)).symm)
    isplitl [HI] <;> iassumption
  have deal : ∀ c ∈ (Finset.univ : Finset (Dev nD)),
      iprop((∃ K, records m ρ K) ∗ ((bigSep Finset.univ fun i : CI => at0 (F := F) (c, i)) ∗ payToks (F := F) c)) ⊢ G' m ρ c := by
    intro c _
    unfold G'
    exact BI.Entails.refl _
  have htk : (bigSep Finset.univ fun c : Dev nD => toks (F := F) c) ⊢ bigSep Finset.univ fun c : Dev nD => payToks (F := F) c :=
    (bigSep_mono fun c _ => toks_own c).trans (Entails.of_eq toks_around)
  rw [bigSep_sep', bigSep_sep', ← bigSep_univ_prod (fun x : Dev nD × CI => iprop((∃ κ : ℕ, cellInv ER (Rd m ρ) κ (kcell x)) ∗ reached ER (kcell x) 0))]
  have hd := bigSep_with_persistent deal
  rw [bigSep_sep'] at hd
  iintro ⟨HI, Hat, Htok⟩
  iapply hd
  isplitl [HI]
  · iapply hinv; iexact HI
  isplitl [Hat]; · iexact Hat
  iapply htk; iexact Htok

/-- Every device's semaphores become cells, all at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold start G' linear
  iintro ⟨-, Hlev, Hcr, -, HK, Hat, Htok⟩
  ihave Hc := (creds (F := F) c) $$ Hcr
  imodintro
  isplitl
  · isplitl [HK]; · iexact HK
    isplitl [Hlev]; · iexact Hlev
    isplitl [Hc]; · iexact Hc
    isplitl [Hat] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scrAny
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scrAny
  rw [sems_eq]
  iintro ⟨⟨Hu, Ho⟩, Hr⟩
  isplitl [Hu]; · iexact Hu
  isplitl [Ho] <;> iassumption

/-- The semaphores of the staging buffers are none of the kernel's cells. -/
theorem stage_sems : ∀ (w : Fin 2) (s : Fin (spec0 w).nbuf) (i : CI), csem i ≠ .dma ((spec0 w).sem s) := by decide +kernel

theorem dec_stage (c : Dev nD) (w : Fin 2) (s : Fin (spec0 w).nbuf) : dec ((c : Thread nD τ), .dma ((spec0 w).sem s)) = none := by
  unfold dec Function.partialInv
  rw [dif_neg]
  rintro ⟨x, hx⟩
  exact stage_sems w s x.2 (congrArg Prod.snd hx)

theorem debts_pos (c : Dev nD) : ∀ x ∈ debts c, 0 < lvI x.2 := by
  intro x hx
  rcases List.mem_append.mp hx with h | h
  · obtain ⟨r, -, rfl⟩ := List.mem_map.mp h
    exact Nat.one_pos
  · exact lv_xfer c 1 0 0 (by decide) _ (lv_xfer c 1 1 0 (by decide) _ (lv_xfer c 3 0 0 (by decide) _ (lv_xfer c 3 1 0 (by decide) _ (nil_lv 0)))) x h

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_of c _ 0 (debts c) (Nat.le_of_eq (by unfold lv; rw [show dec ((c : Thread nD τ), .dma ((spec0 w).sem s)) = none from dec_stage c w s]; rfl)) (debts_pos c)
    · exact mayWait_nil c _

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters, over any float values, the sixteen devices' runs end, each array at its
    computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operand after the run is what it was. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdeal

end
-- ==== Proof.Value.lean ====
/-
  The result in closed form: every device ends with the sum over the sixteen devices of their operands, which over the
  extended reals is the reference's sum along the leading axis.
-/
module

public import proofs.«01_k».proof.Proof.Launch
public import Idealize.ShloMosaic.Lib.Pointwise.Reduce
public import Idealize.ShloMosaic.Lib.IdealHost
public import Idealize.ShloMosaic.Lib.Layout

@[expose] public section

set_option maxRecDepth 65536

noncomputable section

namespace Cert.KernelIdeal

open Gen
open Idealize.ShloMosaic Idealize.ShloMosaic.TcCoe
open Idealize.SL.Sem

/-! ## The arrays after the run -/

section Arrays

variable {F : FTy → Type} [FloatOps F]
variable (m : (ℓ : Loc nD τ sig) → Buf (Elt F) ℓ) (ρ : Dev nD → PrngReg)

/-- The one block of the operand is the whole operand. -/
theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- The result array ends as the staged result. -/
theorem finalA_o (c : Dev nD) : finalA m ρ c (1 : Fin 2) = outC m ρ := by
  have hz : (fun a => (win0_1.index (0 : Fin 1)) a * main_v1.ty.shape.size a) = fun _ => 0 :=
    funext fun a => by fin_cases a <;> decide
  have hr := fun f => Memref.read_access_unit_zero (Elt F) main_v1 hz (fun a => by fin_cases a <;> decide) f
  have hb := (dats m ρ 0 c).read_blk_arrAt_eq_flushed (1 : Fin 2)
    (fun t t' _ _ h => absurd (Subsingleton.elim (α := Fin 1) t t') h) cfg0.N t0_0 (by decide) (by decide)
  exact (hr _).symm.trans hb

/-- The whole program's run read at its two arrays. -/
theorem run_arrays : θ_run defs (onTc (τ := τ) (main (F := F))) (s₀ m ρ) (fun r =>
    (∀ c : Dev nD, r.2.mem ((c : Thread nD τ).loc main_v1) = outC m ρ
      ∧ r.2.mem ((c : Thread nD τ).loc main_arg0) = m ((c : Thread nD τ).loc main_arg0))
    ∧ r.2.sem = fun _ => 0) :=
  (θ_run defs _ _).mono
    (fun _ h => ⟨fun c => ⟨(h.1 c (1 : Fin 2)).trans (finalA_o m ρ c), (h.1 c (0 : Fin 2)).trans (finalA_x m ρ c)⟩, h.2⟩)
    (run_main m ρ)

/-- A block of the staged operand at a row and a column. -/
theorem rdX_apply (p q : Dev nD) (k : Fin 2) (j : S8x256.Idx) :
    rdX m ρ p q k j = m ((p : Thread nD τ).loc main_arg0) ((xR q k).emb (Fin.cons (α := fun a => Fin (S1x8x256.size a)) ⟨0, Nat.one_pos⟩ j)) := by
  rw [← xstg_eq m ρ p]
  exact shapeCast_dropUnit_apply ![8, 256] (fun i : S1x8x256.Idx => xstg m ρ p ((xR q k).emb i)) shapeCasts_S1x8x256_S8x256 j

end Arrays

/-! ## The sum over the extended reals -/

variable (m : (ℓ : Loc nD τ sig) → Buf (Elt Ideal) ℓ) (ρ : Dev nD → PrngReg)

theorem foldl_add_apply (f : Fin 15 → FVec Ideal S8x256 .f32) (j : S8x256.Idx) (l : List (Fin 15)) (z : FVec Ideal S8x256 .f32) :
    (l.foldl (fun acc r => addf acc (f r)) z) j = z j + ((l.map fun r => f r j).sum : EReal) := by
  induction l generalizing z with
  | nil => exact (add_zero (z j : EReal)).symm
  | cons r l ih =>
    rw [List.foldl_cons, ih, List.map_cons, List.sum_cons, ← add_assoc]
    rfl

theorem near_perm : near.Perm (List.finRange 15) := by decide

/-- The own term and the fifteen peers' are the sixteen devices'. -/
theorem sum_devs (q : Dev nD) (g : Dev nD → EReal) : ∑ p : Dev nD, g p = g q + ∑ r : Fin 15, g (peer q r) := by
  rw [← Finset.add_sum_erase _ g (Finset.mem_univ q), others_eq q, Finset.sum_map]
  rfl

theorem outV_apply (q : Dev nD) (k : Fin 2) (j : S8x256.Idx) : outV m ρ q k j = (∑ p : Dev nD, rdX m ρ p q k j : EReal) := by
  unfold outV
  rw [foldl_add_apply (fun r => rdX m ρ (peer q r) q k), (near_perm.map _).sum_eq, ← Fin.sum_univ_def]
  exact (sum_devs q fun p => rdX m ρ p q k j).symm

/-- The row and column of the operand that make the result at an index. -/
theorem row_split (i : S256x256.Idx) : ∃ (q : Dev nD) (k : Fin 2) (j : S8x256.Idx), outFn m ρ i = outV m ρ q k j
    ∧ (i 0).val = 16 * q.val + 8 * k.val + (j 0).val ∧ (i 1).val = (j 1).val :=
  ⟨⟨(rowOf i).val / 16, row_dev (rowOf i).isLt⟩, ⟨(rowOf i).val % 16 / 8, row_chunk _⟩, inRow ⟨(rowOf i).val % 8, row_row _⟩ (colOf i), rfl,
    show (rowOf i).val = 16 * ((rowOf i).val / 16) + 8 * ((rowOf i).val % 16 / 8) + (rowOf i).val % 8 by omega, rfl⟩

/-- The sum along the leading axis of an array each device holds a block of. -/
theorem outFn_sum (X : (⟨3, ![16, 256, 256]⟩ : Shape).Idx → EReal) (hX : ∀ c : Dev nD, m ((c : Thread nD τ).loc main_arg0) = Layout.block ⟨3, ![1, 256, 256]⟩ ⟨3, ![16, 256, 256]⟩ 0 16 c X)
    (i : S256x256.Idx) : outFn m ρ i = (∑ p : Fin 16, X (ix3 p (i 0) (i 1)) : EReal) := by
  obtain ⟨q, k, j, h, h0, h1⟩ := row_split m ρ i
  rw [h, outV_apply]
  refine Finset.sum_congr rfl fun p _ => ?_
  rw [rdX_apply, hX p, Layout.block_apply]
  refine congrArg X (Shape.idx3_ext ?_ ?_ ?_)
  · show p.val * 1 + (0 + 1 * 0) = p.val
    omega
  · show 16 * q.val + 8 * k.val + 1 * (j 0).val = (i 0).val
    omega
  · show 0 + 1 * (j 1).val = (i 1).val
    omega

end Cert.KernelIdeal

end
-- ==== Proof.Claims.lean ====
/-
  The certificate's claims: the frames of the three programs, and the result against the reference's.
-/
module

public import proofs.«01_k».proof.Defs
public import proofs.«01_k».proof.Proof.Value
public import proofs.«01_k».proof.Proof.Gen.Kernel
public import proofs.«01_k».proof.Proof.Gen.ReferenceIdeal.Run
public import Idealize.ShloMosaic.Lib.Quiescent

@[expose] public section

set_option maxRecDepth 65536

noncomputable section

namespace Cert.Proof

open Idealize.ShloMosaic Idealize.ShloMosaic.TcCoe Idealize.SL.Sem

/-- The idealized kernel ends, over any float values, its operand unchanged and its counters at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c : Thread Cert.KernelIdeal.nD Cert.KernelIdeal.τ).loc Cert.KernelIdeal.main_arg0)
        = m ((c : Thread Cert.KernelIdeal.nD Cert.KernelIdeal.τ).loc Cert.KernelIdeal.main_arg0))
      ∧ r.2.sem = fun _ => 0) :=
  (θ_run Cert.KernelIdeal.defs _ _).mono (fun _ h => ⟨fun c => (h.1 c).2, h.2⟩) (Cert.KernelIdeal.run_arrays (F := F) m ρ)

theorem frame_kernelIdeal : Cert.quiescent_KernelIdeal (hKernelIdeal := Cert.KernelIdeal.Gen.facts) := fun m ρ _ => frame_any (F := Ideal) m ρ

/-- The two programs' tables of bodies hold the same body. -/
theorem bodies_eq : Cert.Kernel.defs₀ (F := Bits) = Cert.KernelIdeal.defs₀ (F := Bits) := by
  unfold Cert.Kernel.defs₀ Cert.KernelIdeal.defs₀
  refine congrArg (fun f => Defs.onTc f) ?_
  funext l a
  match l, a with
  | 0, (t, s) => rfl

theorem defs_eq : Cert.Kernel.defs (F := Bits) = Cert.KernelIdeal.defs (F := Bits) :=
  congrArg (Pipeline.defs Cert.KernelIdeal.pcfgs) bodies_eq

/-- The kernel over bits is the same text, so its run is the same run. -/
theorem frame_kernel : Cert.quiescent_Kernel (hKernel := Cert.Kernel.Gen.facts) := fun m ρ _ => by
  have h := frame_any (F := Bits) m ρ
  rw [← defs_eq] at h
  exact h

/-- The reference has no semaphore, and its run leaves its argument. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's sum at an index. -/
theorem reference_apply (X : (⟨3, ![16, 256, 256]⟩ : Shape).Idx → EReal)
    (h : (⟨3, ![16, 256, 256]⟩ : Shape).ReducesTo [0] ⟨2, ![256, 256]⟩) (hu : 0 < (⟨0, ![]⟩ : Shape).numel) (i : (⟨2, ![256, 256]⟩ : Shape).Idx) :
    Host.reduceAdd (F := Ideal) (φ := .f32) X (constant (F := Ideal) ⟨0, ![]⟩ .f32 0x00000000#32) h hu i = (∑ p : Fin 16, X (ix3 p (i 0) (i 1)) : EReal) := by
  rw [ValueIdx.hostReduceAdd_apply, Ideal.hostReduceAdd_r3_a0]
  have hz : (constant (F := Ideal) ⟨0, ![]⟩ .f32 0x00000000#32 (Shape.Idx.first hu) : EReal) = 0 := Ideal.ofBits_zero_f32
  rw [hz, zero_add]
  rfl

/-- Every device's result is the reference's. -/
theorem algebraic : Cert.algebraic_KernelIdeal_ReferenceIdeal (hKernelIdeal := Cert.KernelIdeal.Gen.facts) (hReferenceIdeal := Cert.ReferenceIdeal.Gen.facts) := by
  intro m ρ m' ρ' _ hagree
  refine ⟨Host.reduceAdd (F := Ideal) (φ := .f32) (m' (((0 : Dev Cert.ReferenceIdeal.nD).tc : Thread _ Cert.ReferenceIdeal.τ).loc Cert.ReferenceIdeal.main_arg0))
    (constant Cert.ReferenceIdeal.S_ .f32 0x00000000#32) Cert.ReferenceIdeal.Facts₀.reducesTo_S16x256x256_S256x256_d0 Cert.ReferenceIdeal.Facts₀.h_S_, ?_, ?_⟩
  · refine (θ_run Cert.KernelIdeal.defs _ _).mono (fun _ h c => ⟨(h.1 c).1.trans ?_, (h.1 c).2⟩) (Cert.KernelIdeal.run_arrays (F := Ideal) m ρ)
    funext i
    exact (Cert.KernelIdeal.outFn_sum m ρ _ hagree i).trans (reference_apply _ _ _ i).symm
  · exact (θ_run Cert.ReferenceIdeal.defs _ _).mono (fun _ h => h 0) (Cert.ReferenceIdeal.Value.run (F := Ideal) m' ρ')

end Cert.Proof

end
-- ==== Proof.lean ====
/-
  The certificate: the side conditions of the three programs, and the five claims about them (Claims).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Everything that is claimed. -/
theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
